-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S8x5000x1001 : Shape := ⟨3, ![8, 5000, 1001]⟩
abbrev S8x1000 : Shape := ⟨2, ![8, 1000]⟩
abbrev S_ : Shape := ⟨0, ![]⟩

class Facts : Prop where
  bcast_S_S8x5000x1001 : S_.BroadcastsInDim S8x5000x1001 (![] : Fin 0 → Fin S8x5000x1001.rank)
  reducesTo_S8x5000x1001_S_d0_1_2 : S8x5000x1001.ReducesTo [0, 1, 2] S_
  h_S_ : 0 < S_.numel

variable [Facts]

def fn {F : FTy → Type} [FloatOps F] (main_arg0 : FVec F S8x5000x1001 .f32) (main_arg1 : IVec S8x1000 1) : IVec S_ 1 :=
  let main_v0 : FVec F S8x5000x1001 .f32 := Host.absf main_arg0
  let main_cst : FVec F S_ .f32 := constant S_ .f32 0x7F800000#32
  let main_v1 : FVec F S8x5000x1001 .f32 := broadcastInDim S8x5000x1001 ![] bcast_S_S8x5000x1001 main_cst
  let main_v2 : IVec S8x5000x1001 1 := cmpf .olt main_v0 main_v1
  let main_c : IVec S_ 1 := constantI S_ 1 1#1
  let main_v3 : IVec S_ 1 := (fun x v => Host.reduce IntOp.andi x v reducesTo_S8x5000x1001_S_d0_1_2 h_S_) main_v2 main_c
  main_v3
-- ==== Kernel.lean ====
abbrev S8x5000x1001 : Shape := ⟨3, ![8, 5000, 1001]⟩
abbrev S8x1000 : Shape := ⟨2, ![8, 1000]⟩
abbrev S_ : Shape := ⟨0, ![]⟩
abbrev S8x1 : Shape := ⟨2, ![8, 1]⟩
abbrev S8x1001 : Shape := ⟨2, ![8, 1001]⟩
abbrev S8x1x1001 : Shape := ⟨3, ![8, 1, 1001]⟩
abbrev S40x1x1000 : Shape := ⟨3, ![40, 1, 1000]⟩
abbrev S1x1000x1001 : Shape := ⟨3, ![1, 1000, 1001]⟩
abbrev S1x1x1001 : Shape := ⟨3, ![1, 1, 1001]⟩
abbrev S1x1x1000 : Shape := ⟨3, ![1, 1, 1000]⟩
abbrev S1000x1001 : Shape := ⟨2, ![1000, 1001]⟩
abbrev S1x1001 : Shape := ⟨2, ![1, 1001]⟩
abbrev S1000 : Shape := ⟨1, ![1000]⟩
abbrev S1000x1 : Shape := ⟨2, ![1000, 1]⟩
abbrev S8x5000 : Shape := ⟨2, ![8, 5000]⟩
abbrev S8x5120 : Shape := ⟨2, ![8, 5120]⟩
abbrev S5120 : Shape := ⟨1, ![5120]⟩
abbrev S16128 : Shape := ⟨1, ![16128]⟩
abbrev S1x5120 : Shape := ⟨2, ![1, 5120]⟩
abbrev S16 : Shape := ⟨1, ![16]⟩
abbrev S8x5000x1000 : Shape := ⟨3, ![8, 5000, 1000]⟩
abbrev S1x1000x1000 : Shape := ⟨3, ![1, 1000, 1000]⟩
abbrev S1000x1000 : Shape := ⟨2, ![1000, 1000]⟩

abbrev nBuf : Table → Nat
  | .hbm => 32
  | .local .tc .vmem => 22
  | .local .scVector .vmem => 5
  | _ => 0

abbrev bufTy : (tb : Table) → Fin (nBuf tb) → BufTy
  | .hbm, ⟨0, _⟩ => ⟨S8x5000x1001, .f32⟩
  | .hbm, ⟨1, _⟩ => ⟨S8x1000, .i1⟩
  | .hbm, ⟨2, _⟩ => ⟨S_, .i1⟩
  | .hbm, ⟨3, _⟩ => ⟨S8x1, .i1⟩
  | .hbm, ⟨4, _⟩ => ⟨S8x1001, .i1⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x1001, .f32⟩
  | .hbm, ⟨9, _⟩ => ⟨S8x1001, .f32⟩
  | .hbm, ⟨10, _⟩ => ⟨S8x1001, .f32⟩
  | .hbm, ⟨11, _⟩ => ⟨S8x1x1001, .f32⟩
  | .hbm, ⟨12, _⟩ => ⟨S40x1x1000, .i32⟩
  | .hbm, ⟨13, _⟩ => ⟨S40x1x1000, .f32⟩
  | .hbm, ⟨14, _⟩ => ⟨S40x1x1000, .f32⟩
  | .hbm, ⟨15, _⟩ => ⟨S40x1x1000, .f32⟩
  | .hbm, ⟨16, _⟩ => ⟨S8x5000, .i32⟩
  | .hbm, ⟨17, _⟩ => ⟨S_, .i32⟩
  | .hbm, ⟨18, _⟩ => ⟨S_, .i32⟩
  | .hbm, ⟨19, _⟩ => ⟨S8x5120, .i32⟩
  | .hbm, ⟨20, _⟩ => ⟨S8x5000, .f32⟩
  | .hbm, ⟨21, _⟩ => ⟨S_, .f32⟩
  | .hbm, ⟨22, _⟩ => ⟨S_, .f32⟩
  | .hbm, ⟨23, _⟩ => ⟨S8x5120, .f32⟩
  | .hbm, ⟨24, _⟩ => ⟨S8x5000, .f32⟩
  | .hbm, ⟨25, _⟩ => ⟨S_, .i32⟩
  | .hbm, ⟨26, _⟩ => ⟨S_, .f32⟩
  | .hbm, ⟨27, _⟩ => ⟨S8x5120, .f32⟩
  | .hbm, ⟨28, _⟩ => ⟨S8x5120, .f32⟩
  | .hbm, ⟨29, _⟩ => ⟨S8x5000, .f32⟩
  | .hbm, ⟨30, _⟩ => ⟨S40x1x1000, .f32⟩
  | .hbm, ⟨31, _⟩ => ⟨S8x5000x1000, .f32⟩
  | .local .tc .vmem, ⟨0, _⟩ => ⟨S1x1000x1001, .f32⟩
  | .local .tc .vmem, ⟨1, _⟩ => ⟨S1x1000x1001, .f32⟩
  | .local .tc .vmem, ⟨2, _⟩ => ⟨S1x1x1001, .f32⟩
  | .local .tc .vmem, ⟨3, _⟩ => ⟨S1x1x1001, .f32⟩
  | .local .tc .vmem, ⟨4, _⟩ => ⟨S1x1x1000, .i32⟩
  | .local .tc .vmem, ⟨5, _⟩ => ⟨S1x1x1000, .i32⟩
  | .local .tc .vmem, ⟨6, _⟩ => ⟨S1x1x1000, .f32⟩
  | .local .tc .vmem, ⟨7, _⟩ => ⟨S1x1x1000, .f32⟩
  | .local .tc .vmem, ⟨8, _⟩ => ⟨S1x1x1000, .f32⟩
  | .local .tc .vmem, ⟨9, _⟩ => ⟨S1x1x1000, .f32⟩
  | .local .tc .vmem, ⟨10, _⟩ => ⟨S1x1x1000, .f32⟩
  | .local .tc .vmem, ⟨11, _⟩ => ⟨S1x1x1000, .f32⟩
  | .local .tc .vmem, ⟨12, _⟩ => ⟨S1x1000x1001, .f32⟩
  | .local .tc .vmem, ⟨13, _⟩ => ⟨S1x1000x1001, .f32⟩
  | .local .tc .vmem, ⟨14, _⟩ => ⟨S1x1x1001, .f32⟩
  | .local .tc .vmem, ⟨15, _⟩ => ⟨S1x1x1001, .f32⟩
  | .local .tc .vmem, ⟨16, _⟩ => ⟨S1x1x1000, .f32⟩
  | .local .tc .vmem, ⟨17, _⟩ => ⟨S1x1x1000, .f32⟩
  | .local .tc .vmem, ⟨18, _⟩ => ⟨S1x1x1000, .f32⟩
  | .local .tc .vmem, ⟨19, _⟩ => ⟨S1x1x1000, .f32⟩
  | .local .tc .vmem, ⟨20, _⟩ => ⟨S1x1000x1000, .f32⟩
  | .local .tc .vmem, ⟨21, _⟩ => ⟨S1x1000x1000, .f32⟩
  | .local .scVector .vmem, ⟨0, _⟩ => ⟨S5120, .i32⟩
  | .local .scVector .vmem, ⟨1, _⟩ => ⟨S5120, .f32⟩
  | .local .scVector .vmem, ⟨2, _⟩ => ⟨S5120, .f32⟩
  | .local .scVector .vmem, ⟨3, _⟩ => ⟨S5120, .f32⟩
  | .local .scVector .vmem, ⟨4, _⟩ => ⟨S16128, .f32⟩
  | _, _ => ⟨S8x5000x1001, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_c_1 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_call3_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v6_scv : Ref sig .scVector := ⟨.hbm, 19, rfl⟩
abbrev main_v8_scv : Ref sig .scVector := ⟨.hbm, 23, rfl⟩
abbrev main_v10_scv : Ref sig .scVector := ⟨.hbm, 27, rfl⟩
abbrev main_v11_scv : Ref sig .scVector := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1000x1001 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1001 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  ![v1.toNat, 0]
@[reducible] def k1_t1_loop : Scf.Loop 32 :=
  let c0_i32_1 : BitVec 32 := 0#32
  let c1008_i32 : BitVec 32 := 1008#32
  let v5 : BitVec 32 := Scalar.addi c0_i32_1 c1008_i32
  let c1_i32 : BitVec 32 := 1#32
  ⟨c0_i32_1, v5, c1_i32⟩
def k1_off2 (k1_t1 : Fin k1_t1_loop.trips) : Fin 1 → Nat :=
  let c0_i32_1 : BitVec 32 := 0#32
  let c1_i32 : BitVec 32 := 1#32
  let arg11 : BitVec 32 := Scf.iv c0_i32_1 c1_i32 k1_t1
  let c16_i32 : BitVec 32 := 16#32
  let v13 : BitVec 32 := Scalar.muli arg11 c16_i32
  let v14 : Index := Scalar.indexCast v13
  ![v14.toNat]
@[reducible] def k1_t2_loop : Scf.Loop 32 :=
  let c0_i32_5 : BitVec 32 := 0#32
  let c320_i32 : BitVec 32 := 320#32
  let v9 : BitVec 32 := Scalar.addi c0_i32_5 c320_i32
  let c1_i32_6 : BitVec 32 := 1#32
  ⟨c0_i32_5, v9, c1_i32_6⟩
def k1_off3 (k1_t2 : Fin k1_t2_loop.trips) : Fin 1 → Nat :=
  let c0_i32_5 : BitVec 32 := 0#32
  let c1_i32_6 : BitVec 32 := 1#32
  let arg11 : BitVec 32 := Scf.iv c0_i32_5 c1_i32_6 k1_t2
  let c16_i32 : BitVec 32 := 16#32
  let v12 : BitVec 32 := Scalar.muli arg11 c16_i32
  let v13 : Index := Scalar.indexCast v12
  ![v13.toNat]

def k1_chk1 (i : grid1.Coords) (v18 : IVec S16 32) : Prop :=
  (∀ (k1_h1 : k1_cond1 i = 1#1), ∀ a x, ((![v18] : Fin 1 → IVec S16 32) a x).toNat < S16128.size a) ∧
  (∀ (k1_h1 : k1_cond1 i = 1#1), ∀ a x, ((![v18] : Fin 1 → IVec S16 32) a x).toNat < S16128.size a)
theorem k1_idx1_inb : ∀ (i : grid1.Coords) (v18 : IVec S16 32) (k1_hw1 : k1_chk1 i v18), ∀ (k1_h1 : k1_cond1 i = 1#1), ∀ a x, ((![v18] : Fin 1 → IVec S16 32) a x).toNat < S16128.size a := fun i v18 k1_hw1 k1_h1 => k1_hw1.1 k1_h1
theorem k1_idx2_inb : ∀ (i : grid1.Coords) (v18 : IVec S16 32) (k1_hw1 : k1_chk1 i v18), ∀ (k1_h1 : k1_cond1 i = 1#1), ∀ a x, ((![v18] : Fin 1 → IVec S16 32) a x).toNat < S16128.size a := fun i v18 k1_hw1 k1_h1 => k1_hw1.2 k1_h1
@[reducible] def k1_t3_loop : Scf.Loop 32 :=
  let c0_i32_9 : BitVec 32 := 0#32
  let c63_i32 : BitVec 32 := 63#32
  let v10 : BitVec 32 := Scalar.addi c0_i32_9 c63_i32
  let c1_i32_10 : BitVec 32 := 1#32
  ⟨c0_i32_9, v10, c1_i32_10⟩
def k1_off4 (k1_t3 : Fin k1_t3_loop.trips) : Fin 1 → Nat :=
  let c0_i32_9 : BitVec 32 := 0#32
  let c1_i32_10 : BitVec 32 := 1#32
  let arg11 : BitVec 32 := Scf.iv c0_i32_9 c1_i32_10 k1_t3
  let c16_i32 : BitVec 32 := 16#32
  let v12 : BitVec 32 := Scalar.muli arg11 c16_i32
  let v13 : Index := Scalar.indexCast v12
  ![v13.toNat]
def k1_off5 (k1_t3 : Fin k1_t3_loop.trips) (c1008_i32_17 : BitVec 32) : Fin 1 → Nat :=
  let c0_i32_9 : BitVec 32 := 0#32
  let c1_i32_10 : BitVec 32 := 1#32
  let arg11 : BitVec 32 := Scf.iv c0_i32_9 c1_i32_10 k1_t3
  let c16_i32 : BitVec 32 := 16#32
  let v12 : BitVec 32 := Scalar.muli arg11 c16_i32
  let v15 : BitVec 32 := Scalar.addi c1008_i32_17 v12
  let v16 : Index := Scalar.indexCast v15
  ![v16.toNat]
@[reducible] def k1_t4_loop : Scf.Loop 32 :=
  let c0_i32_13 : BitVec 32 := 0#32
  let c320_i32_14 : BitVec 32 := 320#32
  let v11 : BitVec 32 := Scalar.addi c0_i32_13 c320_i32_14
  let c1_i32_15 : BitVec 32 := 1#32
  ⟨c0_i32_13, v11, c1_i32_15⟩
def k1_off6 (k1_t4 : Fin k1_t4_loop.trips) : Fin 1 → Nat :=
  let c0_i32_13 : BitVec 32 := 0#32
  let c1_i32_15 : BitVec 32 := 1#32
  let arg11 : BitVec 32 := Scf.iv c0_i32_13 c1_i32_15 k1_t4
  let c16_i32 : BitVec 32 := 16#32
  let v12 : BitVec 32 := Scalar.muli arg11 c16_i32
  let v13 : Index := Scalar.indexCast v12
  ![v13.toNat]

def k1_chk2 (i : grid1.Coords) (v14 : IVec S16 32) : Prop :=
  (∀ (k1_h1 : k1_cond1 i = 1#1), ∀ a x, ((![v14] : Fin 1 → IVec S16 32) a x).toNat < S16128.size a)
theorem k1_idx3_inb : ∀ (i : grid1.Coords) (v14 : IVec S16 32) (k1_hw2 : k1_chk2 i v14), ∀ (k1_h1 : k1_cond1 i = 1#1), ∀ a x, ((![v14] : Fin 1 → IVec S16 32) a x).toNat < S16128.size a := fun i v14 k1_hw2 k1_h1 => k1_hw2 k1_h1
def k1_off7 (k1_t4 : Fin k1_t4_loop.trips) : Fin 1 → Nat :=
  let c0_i32_13 : BitVec 32 := 0#32
  let c1_i32_15 : BitVec 32 := 1#32
  let arg11 : BitVec 32 := Scf.iv c0_i32_13 c1_i32_15 k1_t4
  let c16_i32_18 : BitVec 32 := 16#32
  let v23 : BitVec 32 := Scalar.muli arg11 c16_i32_18
  let v24 : Index := Scalar.indexCast v23
  ![v24.toNat]
abbrev grid2 : Pipeline.Grid := ⟨2, ![8, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1000x1001 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x1001 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1000x1000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S8x5000x1001 : Shape := ⟨3, ![8, 5000, 1001]⟩
abbrev S8x1000 : Shape := ⟨2, ![8, 1000]⟩
abbrev S8x1x1000 : Shape := ⟨3, ![8, 1, 1000]⟩
abbrev S8x5000x1000 : Shape := ⟨3, ![8, 5000, 1000]⟩
abbrev S_ : Shape := ⟨0, ![]⟩
abbrev S8x5000x1 : Shape := ⟨3, ![8, 5000, 1]⟩
abbrev S8x5000 : Shape := ⟨2, ![8, 5000]⟩
abbrev S8x5000x1x1 : Shape := ⟨4, ![8, 5000, 1, 1]⟩
abbrev S1001 : Shape := ⟨1, ![1001]⟩
abbrev S1x1x1001 : Shape := ⟨3, ![1, 1, 1001]⟩
abbrev S8x1001 : Shape := ⟨2, ![8, 1001]⟩

abbrev nBuf : Space → Nat
  | .hbm => 90
  | .vmem => 0
  | .smem => 0
  | _ => 0

abbrev bufTy : (tb : Table) → Fin (tcTables nBuf tb) → BufTy
  | .hbm, ⟨0, _⟩ => ⟨S8x5000x1001, .f32⟩
  | .hbm, ⟨1, _⟩ => ⟨S8x1000, .i1⟩
  | .hbm, ⟨2, _⟩ => ⟨S8x1x1000, .i1⟩
  | .hbm, ⟨3, _⟩ => ⟨S8x5000x1000, .f32⟩
  | .hbm, ⟨4, _⟩ => ⟨S_, .f32⟩
  | .hbm, ⟨5, _⟩ => ⟨S_, .f32⟩
  | .hbm, ⟨6, _⟩ => ⟨S8x5000x1000, .i1⟩
  | .hbm, ⟨7, _⟩ => ⟨S8x5000x1000, .f32⟩
  | .hbm, ⟨8, _⟩ => ⟨S8x5000x1000, .f32⟩
  | .hbm, ⟨9, _⟩ => ⟨S8x5000x1, .f32⟩
  | .hbm, ⟨10, _⟩ => ⟨S8x5000x1001, .f32⟩
  | .hbm, ⟨11, _⟩ => ⟨S8x5000x1001, .i32⟩
  | .hbm, ⟨12, _⟩ => ⟨S_, .f32⟩
  | .hbm, ⟨13, _⟩ => ⟨S_, .i32⟩
  | .hbm, ⟨14, _⟩ => ⟨S8x5000, .f32⟩
  | .hbm, ⟨15, _⟩ => ⟨S8x5000, .i32⟩
  | .hbm, ⟨16, _⟩ => ⟨S_, .f32⟩
  | .hbm, ⟨17, _⟩ => ⟨S8x5000, .f32⟩
  | .hbm, ⟨18, _⟩ => ⟨S_, .f32⟩
  | .hbm, ⟨19, _⟩ => ⟨S8x5000, .f32⟩
  | .hbm, ⟨20, _⟩ => ⟨S8x5000, .f32⟩
  | .hbm, ⟨21, _⟩ => ⟨S8x5000x1, .f32⟩
  | .hbm, ⟨22, _⟩ => ⟨S8x5000x1001, .f32⟩
  | .hbm, ⟨23, _⟩ => ⟨S8x5000x1001, .f32⟩
  | .hbm, ⟨24, _⟩ => ⟨S8x5000x1001, .f32⟩
  | .hbm, ⟨25, _⟩ => ⟨S_, .f32⟩
  | .hbm, ⟨26, _⟩ => ⟨S8x5000, .f32⟩
  | .hbm, ⟨27, _⟩ => ⟨S8x5000x1, .f32⟩
  | .hbm, ⟨28, _⟩ => ⟨S8x5000x1001, .f32⟩
  | .hbm, ⟨29, _⟩ => ⟨S8x5000x1001, .f32⟩
  | .hbm, ⟨30, _⟩ => ⟨S8x5000x1, .i32⟩
  | .hbm, ⟨31, _⟩ => ⟨S_, .i32⟩
  | .hbm, ⟨32, _⟩ => ⟨S8x5000x1, .i32⟩
  | .hbm, ⟨33, _⟩ => ⟨S8x5000x1, .i1⟩
  | .hbm, ⟨34, _⟩ => ⟨S_, .i32⟩
  | .hbm, ⟨35, _⟩ => ⟨S8x5000x1, .i32⟩
  | .hbm, ⟨36, _⟩ => ⟨S8x5000x1, .i32⟩
  | .hbm, ⟨37, _⟩ => ⟨S8x5000x1, .i32⟩
  | .hbm, ⟨38, _⟩ => ⟨S8x5000x1x1, .i32⟩
  | .hbm, ⟨39, _⟩ => ⟨S8x5000x1, .f32⟩
  | .hbm, ⟨40, _⟩ => ⟨S8x5000, .f32⟩
  | .hbm, ⟨41, _⟩ => ⟨S_, .i32⟩
  | .hbm, ⟨42, _⟩ => ⟨S8x5000, .i32⟩
  | .hbm, ⟨43, _⟩ => ⟨S8x5000, .i1⟩
  | .hbm, ⟨44, _⟩ => ⟨S8x5000, .i1⟩
  | .hbm, ⟨45, _⟩ => ⟨S_, .f32⟩
  | .hbm, ⟨46, _⟩ => ⟨S8x5000, .f32⟩
  | .hbm, ⟨47, _⟩ => ⟨S8x5000, .f32⟩
  | .hbm, ⟨48, _⟩ => ⟨S8x5000x1, .i32⟩
  | .hbm, ⟨49, _⟩ => ⟨S1001, .i32⟩
  | .hbm, ⟨50, _⟩ => ⟨S1x1x1001, .i32⟩
  | .hbm, ⟨51, _⟩ => ⟨S8x5000x1001, .i32⟩
  | .hbm, ⟨52, _⟩ => ⟨S8x5000x1001, .i32⟩
  | .hbm, ⟨53, _⟩ => ⟨S8x5000x1001, .i1⟩
  | .hbm, ⟨54, _⟩ => ⟨S8x5000x1, .f32⟩
  | .hbm, ⟨55, _⟩ => ⟨S_, .f32⟩
  | .hbm, ⟨56, _⟩ => ⟨S8x5000x1001, .f32⟩
  | .hbm, ⟨57, _⟩ => ⟨S8x5000x1001, .f32⟩
  | .hbm, ⟨58, _⟩ => ⟨S8x5000x1001, .f32⟩
  | .hbm, ⟨59, _⟩ => ⟨S_, .f32⟩
  | .hbm, ⟨60, _⟩ => ⟨S8x1001, .f32⟩
  | .hbm, ⟨61, _⟩ => ⟨S_, .i32⟩
  | .hbm, ⟨62, _⟩ => ⟨S8x5000, .i32⟩
  | .hbm, ⟨63, _⟩ => ⟨S8x5000, .i1⟩
  | .hbm, ⟨64, _⟩ => ⟨S_, .i32⟩
  | .hbm, ⟨65, _⟩ => ⟨S8x5000, .i32⟩
  | .hbm, ⟨66, _⟩ => ⟨S8x5000, .i32⟩
  | .hbm, ⟨67, _⟩ => ⟨S8x5000, .i32⟩
  | .hbm, ⟨68, _⟩ => ⟨S8x5000x1, .i32⟩
  | .hbm, ⟨69, _⟩ => ⟨S8x5000, .f32⟩
  | .hbm, ⟨70, _⟩ => ⟨S8x5000, .i1⟩
  | .hbm, ⟨71, _⟩ => ⟨S8x5000, .i1⟩
  | .hbm, ⟨72, _⟩ => ⟨S_, .f32⟩
  | .hbm, ⟨73, _⟩ => ⟨S8x5000, .f32⟩
  | .hbm, ⟨74, _⟩ => ⟨S_, .f32⟩
  | .hbm, ⟨75, _⟩ => ⟨S8x5000, .f32⟩
  | .hbm, ⟨76, _⟩ => ⟨S8x5000, .f32⟩
  | .hbm, ⟨77, _⟩ => ⟨S8x5000x1, .f32⟩
  | .hbm, ⟨78, _⟩ => ⟨S8x5000x1000, .f32⟩
  | .hbm, ⟨79, _⟩ => ⟨S8x5000x1000, .f32⟩
  | .hbm, ⟨80, _⟩ => ⟨S8x5000x1000, .f32⟩
  | .hbm, ⟨81, _⟩ => ⟨S_, .f32⟩
  | .hbm, ⟨82, _⟩ => ⟨S8x5000, .f32⟩
  | .hbm, ⟨83, _⟩ => ⟨S8x5000x1, .f32⟩
  | .hbm, ⟨84, _⟩ => ⟨S8x5000x1000, .f32⟩
  | .hbm, ⟨85, _⟩ => ⟨S8x5000x1000, .f32⟩
  | .hbm, ⟨86, _⟩ => ⟨S8x5000x1, .i1⟩
  | .hbm, ⟨87, _⟩ => ⟨S8x5000x1, .f32⟩
  | .hbm, ⟨88, _⟩ => ⟨S8x5000x1000, .f32⟩
  | .hbm, ⟨89, _⟩ => ⟨S8x5000x1000, .f32⟩
  | _, _ => ⟨S8x5000x1001, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_c : Ref sig .tc := ⟨.hbm, 13, rfl⟩
abbrev main_call1_v1_0 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_call3_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_call4_v0 : Ref sig .tc := ⟨.hbm, 56, rfl⟩
abbrev main_call4_v1 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_call5_c : Ref sig .tc := ⟨.hbm, 61, rfl⟩
abbrev main_call5_v0 : Ref sig .tc := ⟨.hbm, 62, rfl⟩
abbrev main_call5_v1 : Ref sig .tc := ⟨.hbm, 63, rfl⟩
abbrev main_call5_c_0 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_v5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_8 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩

abbrev nD : Nat := 1
abbrev τ : Topo := Topo.v7x

variable {F : FTy → Type} [FloatOps F]
-- ==== Proof.PISetUp.lean ====
/-
  The program as its launch sees it: the processors' configuration, the resource algebra (the handshakes' rounds, the
  pipelines' rounds, the counters of local copies), the arrays the SparseCore call moves, and the dedup of one row as a
  pure function of the row's indices, scores and factors.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, the counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The arrays of the SparseCore call -/

abbrev iLoc (d : Dev nD) : Loc nD τ sig := (SparseCore.T d).loc main_v6
abbrev sLoc (d : Dev nD) : Loc nD τ sig := (SparseCore.T d).loc main_v8
abbrev vLoc (d : Dev nD) : Loc nD τ sig := (SparseCore.T d).loc main_v10
abbrev oLoc (d : Dev nD) : Loc nD τ sig := (SparseCore.T d).loc main_v11

/-! ## One row's dedup -/

/-- The filler the kernel's table starts from. -/
def neg : F .f32 := Named.named κ "neg" 0xF149F2CA#32

/-- Place `n` of a row, of the table. -/
def rowAt (n : ℕ) : S5120.Idx := Shape.ofLane (d := ![5120]) ⟨n % 5120, Nat.mod_lt _ (by decide)⟩
def tabAt (n : ℕ) : S16128.Idx := Shape.ofLane (d := ![16128]) ⟨n % 16128, Nat.mod_lt _ (by decide)⟩

abbrev RowI : Type := S5120.Idx → BitVec 32
abbrev RowF : Type := S5120.Idx → F .f32
abbrev Tab : Type := S16128.Idx → F .f32

/-- The table after the first `n` groups of sixteen queries: lane `l`'s stretch holds, per class, the maximum of the
    scores of the queries `16 i + l`, `i < n`, of that class. -/
def tab (ix : RowI) (sm : RowF (F := F)) : ℕ → Tab (F := F)
  | 0 => fun _ => neg
  | n + 1 => fun x =>
      if (ix (rowAt (16 * n + (x 0).val / 1008))).toNat = (x 0).val % 1008
      then FloatOps.maximumf (tab ix sm n x) (sm (rowAt (16 * n + (x 0).val / 1008))) else tab ix sm n x

/-- The maximum over the lanes' stretches at offset `c`, taken from lane 0 up to lane `l`. -/
def lanes (t : Tab (F := F)) (c : ℕ) : ℕ → F .f32
  | 0 => t (tabAt c)
  | l + 1 => FloatOps.maximumf (lanes t c l) (t (tabAt (1008 * (l + 1) + c)))

/-- The best score of class `c`. -/
def best (ix : RowI) (sm : RowF (F := F)) (c : ℕ) : F .f32 := lanes (tab ix sm 320) c 15

/-- The row the dedup writes: the factor where the query's score is its class's best and its class is a class, else 0. -/
def dedup (ix : RowI) (sm iv : RowF (F := F)) : RowF (F := F) := fun j =>
  Scalar.select (IntOp.andi (FloatOps.cmpf .oeq (sm j) (best ix sm (ix j).toNat)) (IntOp.cmpi .slt (ix j) 1000#32)) (iv j)
    (Scalar.ofBits .f32 0x00000000#32)

end Cert.Proof.PI
-- ==== Proof.PISeg.lean ====
/-
  A pallas_call's region under the launch of a program that also has a SparseCore call: the TensorCore enters it owing
  the handshakes' units of the calls still to come, and its recorded waits stay at or below the level of the calls
  behind it. One segment for both regions: entered with every unscoped buffer at a valuation, left at another that has
  the region's arrays at what the region computes and agrees with the first off them.
-/
module

public import proofs.«01_k».proof.Proof.PISetUp
public import Idealize.ShloMosaic.Lib.Pipeline.RegionsLoop

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

/-- The TensorCore's unscoped references: what the thread state holds at a valuation. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W (Proc.devRef .tc b)) : sProp 𝕄) = StableHlo.held (T c) ucRefs W := by
  unfold unscopedBufs StableHlo.held ucRefs StableHlo.tcRefs
  rw [Finset.filter_map, bigSep_map]
  rfl

/-- The pipelines fetch no table: the one admissible contents of none. -/
def adm : (p : Fin 2) → (pcfgs (F := F) p).Adm := fun p => Pipeline.Cfg.toPCfg_adm (cfgs p)

/-- The TensorCore's tallies and its bound before call `n`. -/
def tcOwes (c : Dev nD) (n : ℕ) : sProp 𝕄 :=
  iprop(∃ W, ⌜(K (F := F)).WBelow (T c) W (8 * n)⌝ ∗ owes (T c) ((K (F := F)).Otc c n) W)

/-- The recorded waits a region may be entered with before call `n`. -/
def rec (c : Dev nD) (n : ℕ) : Set (SemLoc sig × HIx 1) := {p | (K (F := F)).lev (T c, p.1) p.2 ≤ 8 * n}

variable (pdats : (p : Fin 2) → (c : Dev nD) → Dat τ (Elt F) (HIx 1) ℕ UU ℕ (Pipeline.pin (pcfgs (F := F)) adm p) c)

set_option backward.isDefEq.respectTransparency.types false in
/-- Pipeline `p`'s region before SparseCore call `n`. -/
def seg (p : Fin 2) (n : ℕ) (kit : Pipeline.PLaunchFacts (nD := nD) (τ := τ) (pcfgs (F := F)) p) (hK : (pcfgs (F := F) p).pre.K = 0)
    (hbody : ∀ c, Pipeline.BodyObligationLoose (pdats p c) (defs₀ (F := F)) 𝒱₀ none Set.univ)
    (howed : ∀ c t, (pdats p c).owed t = (K (F := F)).Otc c n)
    (hrec : ∀ c t, (pdats p c).recorded t = rec (F := F) c n)
    (hΦ0 : ∀ c t, (pdats p c).Φ t = Pipeline.scopedRest (Ix := HIx 1) (Name := ℕ) (U := UU) (Lvl := ℕ) (Val := Elt F) (Pipeline.pin (pcfgs (F := F)) adm p).spec c)
    (hq : ∀ c w, (pdats p c).q w = fullShare)
    (V V' : (c : Dev nD) → Valuation τ sig (Elt F))
    (hA : ∀ c w, (pdats p c).A w = V c (Proc.devRef .tc (Pipeline.arrRef (Pipeline.pin (pcfgs (F := F)) adm p).spec w)))
    (hV' : ∀ c w, (pdats p c).arrAt w (Pipeline.pin (pcfgs (F := F)) adm p).N = V' c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) → V' c (Proc.devRef .tc b) = V c (Proc.devRef .tc b)) :
    Pipeline.RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) adm) pdats none p c (8 * n) ((K (F := F)).Otc c n) (howed c)
    (fun _ _ => Finset.mem_univ _) (fun _ _ => Nat.zero_le _)
    (fun g i h => ⟨Finset.mem_univ _, Nat.lt_of_succ_le (SparseCore.Cfg.lev_of_Otc_pos h)⟩)
  pre c := iprop(StableHlo.held (T c) ucRefs (V c) ∗ tcOwes c n)
  post c := iprop(StableHlo.held (T c) ucRefs (V' c) ∗ tcOwes c n)
  X _ := BI.emp
  Y _ := BI.emp
  Z c := Pipeline.unscopedRest (Ix := HIx 1) (Name := ℕ) (U := UU) (Lvl := ℕ) (Pipeline.pin (pcfgs (F := F)) adm p).spec c (fun b => V c (Proc.devRef .tc b))
  hentry c := by
    rw [Pipeline.ownSems0_none, ← unscopedBufs_held, Pipeline.prefHeld_of_none _ hK]
    have hsplit := Pipeline.arrays_of_unscopedBufs (p := p) (pcfgs (F := F)) adm pdats kit.win kit.arr_whole c
      ((pdats p c).share_full (hq c)) (fun b => V c (Proc.devRef .tc b)) (hA c)
    iintro ⟨⟨Hub, HO⟩, -, -⟩
    ihave H := hsplit $$ Hub
    icases H with ⟨Ha, Hrest⟩
    imodintro
    isplitl [Ha]; · iexact Ha
    isplitr; · iempintro
    isplitl [HO]
    · unfold tcOwes
      unfold Pipeline.Dat.owesAt Pipeline.owesWithin Pipeline.Dat.bound
      rw [howed c 0, hrec c 0]
      icases HO with ⟨%W, %hW, HO⟩; iexists W; isplitr
      · ipureintro; exact fun x hx => Or.inl (hW x hx)
      iexact HO
    isplitr; · iempintro
    iexact Hrest
  hin c := by
    rw [hΦ0 c 0]
    iintro ⟨-, -, Hr⟩; iexact Hr
  hout c := by
    rw [Pipeline.ownSems0_none, hΦ0 c]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) kit.win kit.arr_whole c
      pdats ((pdats p c).share_full (hq c)) (fun b => V c (Proc.devRef .tc b)) (fun b => V' c (Proc.devRef .tc b)) ((pdats p c).arrAt · (Pipeline.pin (pcfgs (F := F)) adm p).N)
      (hV' c) (hrest c)
    rw [← unscopedBufs_held]
    iintro ⟨Ha, HO, -, Hrest⟩
    imodintro
    isplitl [Ha Hrest]
    · iapply hjoin; isplitl [Ha] <;> iassumption
    unfold tcOwes
    unfold Pipeline.Dat.owesAt Pipeline.owesWithin Pipeline.Dat.bound
    rw [howed c, hrec c]
    icases HO with ⟨%W, %hW, HO⟩; iexists W; isplitr
    · ipureintro
      intro x hx
      rcases hW hx with h | ⟨w, s, rfl⟩
      · exact h
      · exact Nat.zero_le _
    iexact HO

end Cert.Proof.PI
-- ==== Proof.PIRegA.lean ====
/-
  The statistics' region: its body, its proof data, and the four arrays it leaves as functions of the logits and the mask.
-/
module

public import proofs.«01_k».proof.Proof.PISeg
public import Idealize.ShloMosaic.Lib.Pipeline.ValueKit
public import Idealize.ShloMosaic.Lib.Pipeline.RegionsLoop

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

/-- A store through the whole of a memref leaves the payload to be read. -/
theorem read_writes_full {sp : Space} {s : Shape} {e : EltTy} (v : View sig .tc sp s e) (f : v.ty.Contents (Elt F))
    (off : Fin s.rank → ℕ) (hoff : off = fun _ => 0) (inb : ∀ a, off a + s.size a ≤ s.size a) (X : s.Idx → Elt F e) :
    v.read (Elt F) (v.writes (Elt F) f [⟨Rect.unit (s := s) off s.size inb, X⟩]) = X := by
  subst hoff
  funext y
  have h := View.read_writes_cons_emb v f (Rect.unit (s := s) (fun _ => 0) s.size inb) X [] y
  rw [show (Rect.unit (s := s) (fun _ => 0) s.size inb).emb y = y from by
    funext a; apply Fin.ext; simp [Rect.emb, Rect.unit]] at h
  exact h

/-- A load through the whole of a memref reads its contents. -/
theorem read_full {sp : Space} {s : Shape} {e : EltTy} (v : View sig .tc sp s e) (f : v.ty.Contents (Elt F))
    (off : Fin s.rank → ℕ) (hoff : off = fun _ => 0) (inb : ∀ a, off a + s.size a ≤ s.size a) :
    v.readAt (Elt F) (Rect.unit (s := s) off s.size inb).toLoadRect f = v.read (Elt F) f := by
  subst hoff
  funext y
  rw [View.readAt_apply]
  congr 1
  funext a; apply Fin.ext; simp [Rect.toLoadRect, LoadRect.idx, Rect.unit]

variable (c : Dev nD) (i : grid0.Coords)
  (M2 : Memref sig .tc .vmem S1x1000x1001 .f32) (h2 : M2.IsWhole) (M3 : Memref sig .tc .vmem S1x1x1001 .f32) (h3 : M3.IsWhole)
  (M4 : Memref sig .tc .vmem S1x1x1000 .i32) (h4 : M4.IsWhole) (M5 : Memref sig .tc .vmem S1x1x1000 .f32) (h5 : M5.IsWhole)
  (M6 : Memref sig .tc .vmem S1x1x1000 .f32) (h6 : M6.IsWhole) (M7 : Memref sig .tc .vmem S1x1x1000 .f32) (h7 : M7.IsWhole)

/-- The statistics' body: from the logits' and the mask's blocks it leaves the indices, the masked scores, the maxima
    and the reciprocals of the sums. -/
theorem stats_run (X0 : Vec F S1x1000x1001 .f32) (X1 : Vec F S1x1x1001 .f32) (E : Set ℕ) (Q : PUnit → sProp 𝕄) :
    iprop(owns (T c) M2 fullShare X0 ∗ owns (T c) M3 fullShare X1 ∗ (∃ X, owns (T c) M4 fullShare X) ∗ (∃ X, owns (T c) M5 fullShare X)
        ∗ (∃ X, owns (T c) M6 fullShare X) ∗ (∃ X, owns (T c) M7 fullShare X)
        ∗ (iprop(owns (T c) M2 fullShare X0 ∗ owns (T c) M3 fullShare X1 ∗ owns (T c) M4 fullShare (k0_pay1 (k0_pay7 X0 X1))
            ∗ owns (T c) M5 fullShare (k0_pay2 (k0_pay7 X0 X1) (k0_pay11 X0 X1) 1000#32) ∗ owns (T c) M6 fullShare (k0_pay3 (k0_pay8 X0 X1))
            ∗ owns (T c) M7 fullShare (k0_pay4 (k0_pay10 X0 X1))) -∗ Q ⟨⟩))
      ⊢ wp frame (wpE (defs₀ (F := F)) 𝒱₀ (T c) none) E (cc0__stats_body i M2 h2 M3 h3 M4 h4 M5 h5 M6 h6 M7 h7) Q := by
  unfold owns
  rw [cc0__stats_body_eq_skeleton]
  unfold cc0__stats_body_skel
  rw [k0_part1_eq_skeleton]
  unfold k0_part1_skel
  iintro ⟨⟨%f0, %e0, H0⟩, ⟨%f1, %e1, H1⟩, ⟨%X2, %f2, -, H2⟩, ⟨%X3, %f3, -, H3⟩, ⟨%X4, %f4, -, H4⟩, ⟨%X5, %f5, -, H5⟩, Hk⟩
  subst e0 e1
  have h0 : (![0, 0, 0] : Fin 3 → ℕ) = fun _ => 0 := by decide
  sl_exec
  sl_step
  iapply Hk
  isplitl [H0]; · (iexists f0; isplitr; (· ipureintro; rfl); iexact H0)
  isplitl [H1]; · (iexists f1; isplitr; (· ipureintro; rfl); iexact H1)
  isplitl [H2]; · (iexists _; isplitr; swap; (· iexact H2); ipureintro; rw [read_writes_full _ _ _ h0, read_full _ _ _ h0, read_full _ _ _ h0])
  isplitl [H3]; · (iexists _; isplitr; swap; (· iexact H3); ipureintro; rw [read_writes_full _ _ _ h0, read_full _ _ _ h0, read_full _ _ _ h0])
  isplitl [H4]; · (iexists _; isplitr; swap; (· iexact H4); ipureintro; rw [read_writes_full _ _ _ h0, read_full _ _ _ h0, read_full _ _ _ h0])
  (iexists _; isplitr; swap; (· iexact H5); ipureintro; rw [read_writes_full _ _ _ h0, read_full _ _ _ h0, read_full _ _ _ h0])

/-! ## The proof data -/

variable (V : (c : Dev nD) → Valuation τ sig (Elt F))

/-- The blocks of the logits and of the mask at point `t`. -/
abbrev blkA (c : Dev nD) (t : Fin cfg0.N) : Vec F S1x1000x1001 .f32 := ((cfg0.win 0).blk t).view.read (Elt F) (V c (Proc.devRef .tc main_arg0))
abbrev blkB (c : Dev nD) (t : Fin cfg0.N) : Vec F S1x1x1001 .f32 := ((cfg0.win 1).blk t).view.read (Elt F) (V c (Proc.devRef .tc main_v3))

/-- The statistics' region's proof data, from valuation `V`. -/
def datA (c : Dev nD) : Dat τ (Elt F) (HIx 1) ℕ UU ℕ cfg0 c where
  A w := V c (Proc.devRef .tc (Pipeline.arrRef spec0 w))
  after w t := match w with
    | ⟨0, _⟩ => blkA V c t
    | ⟨1, _⟩ => blkB V c t
    | ⟨2, _⟩ => k0_pay1 (k0_pay7 (blkA V c t) (blkB V c t))
    | ⟨3, _⟩ => k0_pay2 (F := F) (k0_pay7 (blkA V c t) (blkB V c t)) (k0_pay11 (blkA V c t) (blkB V c t)) 1000#32
    | ⟨4, _⟩ => k0_pay3 (F := F) (k0_pay8 (blkA V c t) (blkB V c t))
    | ⟨5, _⟩ => k0_pay4 (F := F) (k0_pay10 (blkA V c t) (blkB V c t))
  Φ _ := Pipeline.scopedRest (Ix := HIx 1) (Name := ℕ) (U := UU) (Lvl := ℕ) (Val := Elt F) spec0 c
  q _ := fullShare
  owed _ := (K (F := F)).Otc c 0
  recorded _ := rec (F := F) c 0

theorem before0 (c : Dev nD) (t : Fin cfg0.N) (d) : (datA V c).before 0 t d = blkA V c t :=
  ((datA V c).before_in_eq_fetched 0 rfl (fun _ => rfl) (fun _ _ _ => rfl) (fun _ => rfl) t d).trans rfl
theorem before1 (c : Dev nD) (t : Fin cfg0.N) (d) : (datA V c).before 1 t d = blkB V c t :=
  ((datA V c).before_in_eq_fetched 1 rfl (fun _ => rfl) (fun _ _ _ => rfl) (fun _ => rfl) t d).trans rfl

theorem afterA0 (c : Dev nD) (t : Fin cfg0.N) : (datA V c).after 0 t = blkA V c t := by dsimp only [datA]
theorem afterA1 (c : Dev nD) (t : Fin cfg0.N) : (datA V c).after 1 t = blkB V c t := by dsimp only [datA]
theorem afterA2 (c : Dev nD) (t : Fin cfg0.N) : (datA V c).after 2 t = k0_pay1 (k0_pay7 (blkA V c t) (blkB V c t)) := by dsimp only [datA]
theorem afterA3 (c : Dev nD) (t : Fin cfg0.N) : (datA V c).after 3 t = k0_pay2 (F := F) (k0_pay7 (blkA V c t) (blkB V c t)) (k0_pay11 (blkA V c t) (blkB V c t)) 1000#32 := by dsimp only [datA]
theorem afterA4 (c : Dev nD) (t : Fin cfg0.N) : (datA V c).after 4 t = k0_pay3 (F := F) (k0_pay8 (blkA V c t) (blkB V c t)) := by dsimp only [datA]
theorem afterA5 (c : Dev nD) (t : Fin cfg0.N) : (datA V c).after 5 t = k0_pay4 (F := F) (k0_pay10 (blkA V c t) (blkB V c t)) := by dsimp only [datA]

theorem bodyA (c : Dev nD) : BodyObligation (datA V c) (defs₀ (F := F)) 𝒱₀ none Set.univ := fun t => by
  rw [bigSep_W0, bigSep_W0]
  rw [show (datA V c).Φ t.castSucc = (datA V c).Φ t.succ from rfl,
    show (datA V c).owesAt none t.succ = (datA V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before0, before1, afterA0, afterA1, afterA2, afterA3, afterA4, afterA5]
  iapply (stats_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) (blkA V c t) (blkB V c t) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## What the region leaves, over the arrays it reads -/

/-- Row `1000 i + j` of batch `b` is row `j` of point `5 b + i`. -/
def rowsAt (A : FVec F S8x5000x1001 .f32) (t : Fin 40) : FVec F S1x1000x1001 .f32 := fun y =>
  A (ix3 (n0 := 8) (n1 := 5000) (n2 := 1001) ⟨t.val / 5, by omega⟩ ⟨t.val % 5 * 1000 + (y 1).val, by have h : (y 1).val < 1000 := (y 1).isLt; omega⟩ ⟨(y 2).val, (y 2).isLt⟩)
def maskAt (B : FVec F S8x1x1001 .f32) (t : Fin 40) : FVec F S1x1x1001 .f32 := fun y =>
  B (ix3 (n0 := 8) (n1 := 1) (n2 := 1001) ⟨t.val / 5, by omega⟩ 0 ⟨(y 2).val, (y 2).isLt⟩)

/-- The point of an index of a result array. -/
def pointOf (x : S40x1x1000.Idx) : Fin 40 := ⟨(x 0).val, (x 0).isLt⟩
def laneOf (x : S40x1x1000.Idx) : S1x1x1000.Idx := ix3 (n0 := 1) (n1 := 1) (n2 := 1000) 0 0 ⟨(x 2).val, (x 2).isLt⟩

def pIdx (A : FVec F S8x5000x1001 .f32) (B : FVec F S8x1x1001 .f32) (t : Fin 40) : IVec S1x1x1000 32 := k0_pay1 (k0_pay7 (rowsAt A t) (maskAt B t))
def gIdx (A : FVec F S8x5000x1001 .f32) (B : FVec F S8x1x1001 .f32) : IVec S40x1x1000 32 := fun x => pIdx A B (pointOf x) (laneOf x)
def pSm (A : FVec F S8x5000x1001 .f32) (B : FVec F S8x1x1001 .f32) (t : Fin 40) : FVec F S1x1x1000 .f32 := k0_pay2 (F := F) (k0_pay7 (rowsAt A t) (maskAt B t)) (k0_pay11 (rowsAt A t) (maskAt B t)) 1000#32
def gSm (A : FVec F S8x5000x1001 .f32) (B : FVec F S8x1x1001 .f32) : FVec F S40x1x1000 .f32 := fun x => pSm A B (pointOf x) (laneOf x)
def pMax (A : FVec F S8x5000x1001 .f32) (B : FVec F S8x1x1001 .f32) (t : Fin 40) : FVec F S1x1x1000 .f32 := k0_pay3 (F := F) (k0_pay8 (rowsAt A t) (maskAt B t))
def gMax (A : FVec F S8x5000x1001 .f32) (B : FVec F S8x1x1001 .f32) : FVec F S40x1x1000 .f32 := fun x => pMax A B (pointOf x) (laneOf x)
def pInv (A : FVec F S8x5000x1001 .f32) (B : FVec F S8x1x1001 .f32) (t : Fin 40) : FVec F S1x1x1000 .f32 := k0_pay4 (F := F) (k0_pay10 (rowsAt A t) (maskAt B t))
def gInv (A : FVec F S8x5000x1001 .f32) (B : FVec F S8x1x1001 .f32) : FVec F S40x1x1000 .f32 := fun x => pInv A B (pointOf x) (laneOf x)

theorem ixA (t : Fin cfg0.N) : win0_0.index t = ![t.val / 5, t.val % 5, 0] := (by decide +kernel : ∀ t : Fin grid0.N, win0_0.index t = ![t.val / 5, t.val % 5, 0]) t
theorem ixB (t : Fin cfg0.N) : win0_1.index t = ![t.val / 5, 0, 0] := (by decide +kernel : ∀ t : Fin grid0.N, win0_1.index t = ![t.val / 5, 0, 0]) t

theorem blkA_eq (c : Dev nD) (t : Fin cfg0.N) : blkA V c t = rowsAt (V c (Proc.devRef .tc main_arg0)) ⟨t.val, t.isLt⟩ := by
  funext y
  unfold rowsAt
  show V c (Proc.devRef .tc main_arg0) ((win0_0.blk t).view.emb y) = _
  congr 1
  blk_ext [ixA]

theorem blkB_eq (c : Dev nD) (t : Fin cfg0.N) : blkB V c t = maskAt (V c (Proc.devRef .tc main_v3)) ⟨t.val, t.isLt⟩ := by
  funext y
  unfold maskAt
  show V c (Proc.devRef .tc main_v3) ((win0_1.blk t).view.emb y) = _
  congr 1
  blk_ext [ixB]

/-- The index of a result array at lane `y` of point `t`. -/
theorem at_lane (t : Fin 40) (x : S40x1x1000.Idx) (y : S1x1x1000.Idx) (h0 : (x 0).val = t.val) (h2 : (x 2).val = (y 2).val) :
    pointOf x = t ∧ laneOf x = y := by
  refine ⟨Fin.ext h0, ?_⟩
  have e0 : (y 0).val < 1 := (y 0).isLt
  have e1 : (y 1).val < 1 := (y 1).isLt
  funext a
  apply Fin.ext
  match a with
  | ⟨0, _⟩ => show 0 = (y 0).val; omega
  | ⟨1, _⟩ => show 0 = (y 1).val; omega
  | ⟨2, _⟩ => exact h2

theorem ixO2 (t : Fin cfg0.N) : win0_2.index t = ![t.val, 0, 0] := (by decide +kernel : ∀ t : Fin grid0.N, win0_2.index t = ![t.val, 0, 0]) t
/-- A result array is its points' lanes, whatever the proof data. -/
theorem arrO2 (c : Dev nD) (dat : Dat τ (Elt F) (HIx 1) ℕ UU ℕ cfg0 c) (P : Fin 40 → S1x1x1000.Idx → Elt F .i32)
    (hP : ∀ t : Fin cfg0.N, dat.after 2 t = P ⟨t.val, t.isLt⟩) : dat.arrAt 2 cfg0.N = fun x : S40x1x1000.Idx => P (pointOf x) (laneOf x) := by
  refine dat.arrAt_eq_of_covers 2 _ (by decide +kernel) fun t hf y => ?_
  blk_simp
  rw [hP]
  have h := at_lane ⟨t.val, t.isLt⟩ ((win0_2.blk t).view.emb y) y (by blk_simp [ixO2]) (by blk_simp [ixO2])
  rw [h.1, h.2]
theorem finalA2 (c : Dev nD) : (datA V c).arrAt 2 cfg0.N = gIdx (V c (Proc.devRef .tc main_arg0)) (V c (Proc.devRef .tc main_v3)) :=
  arrO2 c (datA V c) (pIdx (V c (Proc.devRef .tc main_arg0)) (V c (Proc.devRef .tc main_v3))) fun t => (afterA2 V c t).trans (by rw [blkA_eq, blkB_eq, pIdx])

theorem ixO3 (t : Fin cfg0.N) : win0_3.index t = ![t.val, 0, 0] := (by decide +kernel : ∀ t : Fin grid0.N, win0_3.index t = ![t.val, 0, 0]) t
/-- A result array is its points' lanes, whatever the proof data. -/
theorem arrO3 (c : Dev nD) (dat : Dat τ (Elt F) (HIx 1) ℕ UU ℕ cfg0 c) (P : Fin 40 → S1x1x1000.Idx → Elt F .f32)
    (hP : ∀ t : Fin cfg0.N, dat.after 3 t = P ⟨t.val, t.isLt⟩) : dat.arrAt 3 cfg0.N = fun x : S40x1x1000.Idx => P (pointOf x) (laneOf x) := by
  refine dat.arrAt_eq_of_covers 3 _ (by decide +kernel) fun t hf y => ?_
  blk_simp
  rw [hP]
  have h := at_lane ⟨t.val, t.isLt⟩ ((win0_3.blk t).view.emb y) y (by blk_simp [ixO3]) (by blk_simp [ixO3])
  rw [h.1, h.2]
theorem finalA3 (c : Dev nD) : (datA V c).arrAt 3 cfg0.N = gSm (V c (Proc.devRef .tc main_arg0)) (V c (Proc.devRef .tc main_v3)) :=
  arrO3 c (datA V c) (pSm (V c (Proc.devRef .tc main_arg0)) (V c (Proc.devRef .tc main_v3))) fun t => (afterA3 V c t).trans (by rw [blkA_eq, blkB_eq, pSm])

theorem ixO4 (t : Fin cfg0.N) : win0_4.index t = ![t.val, 0, 0] := (by decide +kernel : ∀ t : Fin grid0.N, win0_4.index t = ![t.val, 0, 0]) t
/-- A result array is its points' lanes, whatever the proof data. -/
theorem arrO4 (c : Dev nD) (dat : Dat τ (Elt F) (HIx 1) ℕ UU ℕ cfg0 c) (P : Fin 40 → S1x1x1000.Idx → Elt F .f32)
    (hP : ∀ t : Fin cfg0.N, dat.after 4 t = P ⟨t.val, t.isLt⟩) : dat.arrAt 4 cfg0.N = fun x : S40x1x1000.Idx => P (pointOf x) (laneOf x) := by
  refine dat.arrAt_eq_of_covers 4 _ (by decide +kernel) fun t hf y => ?_
  blk_simp
  rw [hP]
  have h := at_lane ⟨t.val, t.isLt⟩ ((win0_4.blk t).view.emb y) y (by blk_simp [ixO4]) (by blk_simp [ixO4])
  rw [h.1, h.2]
theorem finalA4 (c : Dev nD) : (datA V c).arrAt 4 cfg0.N = gMax (V c (Proc.devRef .tc main_arg0)) (V c (Proc.devRef .tc main_v3)) :=
  arrO4 c (datA V c) (pMax (V c (Proc.devRef .tc main_arg0)) (V c (Proc.devRef .tc main_v3))) fun t => (afterA4 V c t).trans (by rw [blkA_eq, blkB_eq, pMax])

theorem ixO5 (t : Fin cfg0.N) : win0_5.index t = ![t.val, 0, 0] := (by decide +kernel : ∀ t : Fin grid0.N, win0_5.index t = ![t.val, 0, 0]) t
/-- A result array is its points' lanes, whatever the proof data. -/
theorem arrO5 (c : Dev nD) (dat : Dat τ (Elt F) (HIx 1) ℕ UU ℕ cfg0 c) (P : Fin 40 → S1x1x1000.Idx → Elt F .f32)
    (hP : ∀ t : Fin cfg0.N, dat.after 5 t = P ⟨t.val, t.isLt⟩) : dat.arrAt 5 cfg0.N = fun x : S40x1x1000.Idx => P (pointOf x) (laneOf x) := by
  refine dat.arrAt_eq_of_covers 5 _ (by decide +kernel) fun t hf y => ?_
  blk_simp
  rw [hP]
  have h := at_lane ⟨t.val, t.isLt⟩ ((win0_5.blk t).view.emb y) y (by blk_simp [ixO5]) (by blk_simp [ixO5])
  rw [h.1, h.2]
theorem finalA5 (c : Dev nD) : (datA V c).arrAt 5 cfg0.N = gInv (V c (Proc.devRef .tc main_arg0)) (V c (Proc.devRef .tc main_v3)) :=
  arrO5 c (datA V c) (pInv (V c (Proc.devRef .tc main_arg0)) (V c (Proc.devRef .tc main_v3))) fun t => (afterA5 V c t).trans (by rw [blkA_eq, blkB_eq, pInv])

end Cert.Proof.PI
-- ==== Proof.PIRegB.lean ====
/-
  The output's region: its body, its proof data, and the output as a function of the arrays it reads.
-/
module

public import proofs.«01_k».proof.Proof.PIRegA
public import Idealize.ShloMosaic.Lib.Pipeline.RegionsLoop

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

variable (c : Dev nD) (i : grid2.Coords)
  (M2 : Memref sig .tc .vmem S1x1000x1001 .f32) (h2 : M2.IsWhole) (M3 : Memref sig .tc .vmem S1x1x1001 .f32) (h3 : M3.IsWhole)
  (M4 : Memref sig .tc .vmem S1x1x1000 .f32) (h4 : M4.IsWhole) (M5 : Memref sig .tc .vmem S1x1x1000 .f32) (h5 : M5.IsWhole)
  (M6 : Memref sig .tc .vmem S1x1000x1000 .f32) (h6 : M6.IsWhole)

/-- The output's body: from the blocks of the logits, the mask, the maxima and the factors it leaves the output's block. -/
theorem out_run (X0 : Vec F S1x1000x1001 .f32) (X1 : Vec F S1x1x1001 .f32) (X2 X3 : Vec F S1x1x1000 .f32) (E : Set ℕ) (Q : PUnit → sProp 𝕄) :
    iprop(owns (T c) M2 fullShare X0 ∗ owns (T c) M3 fullShare X1 ∗ owns (T c) M4 fullShare X2 ∗ owns (T c) M5 fullShare X3
        ∗ (∃ X, owns (T c) M6 fullShare X)
        ∗ (iprop(owns (T c) M2 fullShare X0 ∗ owns (T c) M3 fullShare X1 ∗ owns (T c) M4 fullShare X2 ∗ owns (T c) M5 fullShare X3
            ∗ owns (T c) M6 fullShare (k2_pay1 X0 X1 X2 X3)) -∗ Q ⟨⟩))
      ⊢ wp frame (wpE (defs₀ (F := F)) 𝒱₀ (T c) none) E (cc2__out_body i M2 h2 M3 h3 M4 h4 M5 h5 M6 h6) Q := by
  unfold owns
  rw [cc2__out_body_eq_skeleton]
  unfold cc2__out_body_skel
  iintro ⟨⟨%f0, %e0, H0⟩, ⟨%f1, %e1, H1⟩, ⟨%f2, %e2, H2⟩, ⟨%f3, %e3, H3⟩, ⟨%X4, %f4, -, H4⟩, Hk⟩
  subst e0 e1 e2 e3
  have h0 : (![0, 0, 0] : Fin 3 → ℕ) = fun _ => 0 := by decide
  sl_exec
  sl_step
  iapply Hk
  isplitl [H0]; · (iexists f0; isplitr; (· ipureintro; rfl); iexact H0)
  isplitl [H1]; · (iexists f1; isplitr; (· ipureintro; rfl); iexact H1)
  isplitl [H2]; · (iexists f2; isplitr; (· ipureintro; rfl); iexact H2)
  isplitl [H3]; · (iexists f3; isplitr; (· ipureintro; rfl); iexact H3)
  (iexists _; isplitr; swap; (· iexact H4); ipureintro; rw [read_writes_full _ _ _ h0, read_full _ _ _ h0, read_full _ _ _ h0, read_full _ _ _ h0, read_full _ _ _ h0])

/-! ## The proof data -/

variable (V : (c : Dev nD) → Valuation τ sig (Elt F))

/-- The blocks at point `t`. -/
abbrev blk0 (c : Dev nD) (t : Fin cfg2.N) : Vec F S1x1000x1001 .f32 := ((cfg2.win 0).blk t).view.read (Elt F) (V c (Proc.devRef .tc main_arg0))
abbrev blk1 (c : Dev nD) (t : Fin cfg2.N) : Vec F S1x1x1001 .f32 := ((cfg2.win 1).blk t).view.read (Elt F) (V c (Proc.devRef .tc main_v3))
abbrev blk2 (c : Dev nD) (t : Fin cfg2.N) : Vec F S1x1x1000 .f32 := ((cfg2.win 2).blk t).view.read (Elt F) (V c (Proc.devRef .tc main_v4_2))
abbrev blk3 (c : Dev nD) (t : Fin cfg2.N) : Vec F S1x1x1000 .f32 := ((cfg2.win 3).blk t).view.read (Elt F) (V c (Proc.devRef .tc main_v13))

/-- The output's region's proof data, from valuation `V`. -/
def datB (c : Dev nD) : Dat τ (Elt F) (HIx 1) ℕ UU ℕ cfg2 c where
  A w := V c (Proc.devRef .tc (Pipeline.arrRef spec2 w))
  after w t := match w with
    | ⟨0, _⟩ => blk0 V c t
    | ⟨1, _⟩ => blk1 V c t
    | ⟨2, _⟩ => blk2 V c t
    | ⟨3, _⟩ => blk3 V c t
    | ⟨4, _⟩ => k2_pay1 (F := F) (blk0 V c t) (blk1 V c t) (blk2 V c t) (blk3 V c t)
  Φ _ := Pipeline.scopedRest (Ix := HIx 1) (Name := ℕ) (U := UU) (Lvl := ℕ) (Val := Elt F) spec2 c
  q _ := fullShare
  owed _ := (K (F := F)).Otc c 1
  recorded _ := rec (F := F) c 1

theorem beforeB0 (c : Dev nD) (t : Fin cfg2.N) (d) : (datB V c).before 0 t d = blk0 V c t :=
  ((datB V c).before_in_eq_fetched 0 rfl (fun _ => rfl) (fun _ _ _ => rfl) (fun _ => rfl) t d).trans rfl
theorem beforeB1 (c : Dev nD) (t : Fin cfg2.N) (d) : (datB V c).before 1 t d = blk1 V c t :=
  ((datB V c).before_in_eq_fetched 1 rfl (fun _ => rfl) (fun _ _ _ => rfl) (fun _ => rfl) t d).trans rfl
theorem beforeB2 (c : Dev nD) (t : Fin cfg2.N) (d) : (datB V c).before 2 t d = blk2 V c t :=
  ((datB V c).before_in_eq_fetched 2 rfl (fun _ => rfl) (fun _ _ _ => rfl) (fun _ => rfl) t d).trans rfl
theorem beforeB3 (c : Dev nD) (t : Fin cfg2.N) (d) : (datB V c).before 3 t d = blk3 V c t :=
  ((datB V c).before_in_eq_fetched 3 rfl (fun _ => rfl) (fun _ _ _ => rfl) (fun _ => rfl) t d).trans rfl

theorem afterB0 (c : Dev nD) (t : Fin cfg2.N) : (datB V c).after 0 t = blk0 V c t := by dsimp only [datB]
theorem afterB1 (c : Dev nD) (t : Fin cfg2.N) : (datB V c).after 1 t = blk1 V c t := by dsimp only [datB]
theorem afterB2 (c : Dev nD) (t : Fin cfg2.N) : (datB V c).after 2 t = blk2 V c t := by dsimp only [datB]
theorem afterB3 (c : Dev nD) (t : Fin cfg2.N) : (datB V c).after 3 t = blk3 V c t := by dsimp only [datB]
theorem afterB4 (c : Dev nD) (t : Fin cfg2.N) : (datB V c).after 4 t = k2_pay1 (F := F) (blk0 V c t) (blk1 V c t) (blk2 V c t) (blk3 V c t) := by dsimp only [datB]

theorem bodyB (c : Dev nD) : BodyObligation (datB V c) (defs₀ (F := F)) 𝒱₀ none Set.univ := fun t => by
  rw [bigSep_W2, bigSep_W2]
  rw [show (datB V c).Φ t.castSucc = (datB V c).Φ t.succ from rfl,
    show (datB V c).owesAt none t.succ = (datB V c).owesAt none t.castSucc from rfl]
  iintro ⟨HΦ, Howes, ⟨%d0, H0⟩, ⟨%d1, H1⟩, ⟨%d2, H2⟩, ⟨%d3, H3⟩, ⟨%d4, H4⟩⟩
  rw [beforeB0, beforeB1, beforeB2, beforeB3, afterB0, afterB1, afterB2, afterB3, afterB4]
  iapply (out_run c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) (blk0 V c t) (blk1 V c t) (blk2 V c t) (blk3 V c t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## What the region leaves, over the arrays it reads -/

/-- Point `t`'s lanes of a row array. -/
def lanesAt (X : FVec F S40x1x1000 .f32) (t : Fin 40) : FVec F S1x1x1000 .f32 := fun y => X (ix3 (n0 := 40) (n1 := 1) (n2 := 1000) t 0 ⟨(y 2).val, (y 2).isLt⟩)

/-- The point of an index of the output, its place in the point's block. -/
def pointOfO (x : S8x5000x1000.Idx) : Fin 40 :=
  ⟨(x 0).val * 5 + (x 1).val / 1000, by have h0 : (x 0).val < 8 := (x 0).isLt; have h1 : (x 1).val < 5000 := (x 1).isLt; omega⟩
def placeOfO (x : S8x5000x1000.Idx) : S1x1000x1000.Idx := ix3 (n0 := 1) (n1 := 1000) (n2 := 1000) 0 ⟨(x 1).val % 1000, Nat.mod_lt _ (by decide)⟩ ⟨(x 2).val, (x 2).isLt⟩

def pOut (A : FVec F S8x5000x1001 .f32) (B : FVec F S8x1x1001 .f32) (X Y : FVec F S40x1x1000 .f32) (t : Fin 40) : FVec F S1x1000x1000 .f32 :=
  k2_pay1 (F := F) (rowsAt A t) (maskAt B t) (lanesAt X t) (lanesAt Y t)
def gOut (A : FVec F S8x5000x1001 .f32) (B : FVec F S8x1x1001 .f32) (X Y : FVec F S40x1x1000 .f32) : FVec F S8x5000x1000 .f32 :=
  fun x => pOut A B X Y (pointOfO x) (placeOfO x)

theorem ixB0 (t : Fin cfg2.N) : win2_0.index t = ![t.val / 5, t.val % 5, 0] := (by decide +kernel : ∀ t : Fin grid2.N, win2_0.index t = ![t.val / 5, t.val % 5, 0]) t
theorem ixB1 (t : Fin cfg2.N) : win2_1.index t = ![t.val / 5, 0, 0] := (by decide +kernel : ∀ t : Fin grid2.N, win2_1.index t = ![t.val / 5, 0, 0]) t
theorem ixB2 (t : Fin cfg2.N) : win2_2.index t = ![t.val, 0, 0] := (by decide +kernel : ∀ t : Fin grid2.N, win2_2.index t = ![t.val, 0, 0]) t
theorem ixB3 (t : Fin cfg2.N) : win2_3.index t = ![t.val, 0, 0] := (by decide +kernel : ∀ t : Fin grid2.N, win2_3.index t = ![t.val, 0, 0]) t
theorem ixB4 (t : Fin cfg2.N) : win2_4.index t = ![t.val / 5, t.val % 5, 0] := (by decide +kernel : ∀ t : Fin grid2.N, win2_4.index t = ![t.val / 5, t.val % 5, 0]) t

theorem blk0_eq (c : Dev nD) (t : Fin cfg2.N) : blk0 V c t = rowsAt (V c (Proc.devRef .tc main_arg0)) ⟨t.val, t.isLt⟩ := by
  funext y
  unfold rowsAt
  show V c (Proc.devRef .tc main_arg0) ((win2_0.blk t).view.emb y) = _
  congr 1
  blk_ext [ixB0]
theorem blk1_eq (c : Dev nD) (t : Fin cfg2.N) : blk1 V c t = maskAt (V c (Proc.devRef .tc main_v3)) ⟨t.val, t.isLt⟩ := by
  funext y
  unfold maskAt
  show V c (Proc.devRef .tc main_v3) ((win2_1.blk t).view.emb y) = _
  congr 1
  blk_ext [ixB1]
theorem blk2_eq (c : Dev nD) (t : Fin cfg2.N) : blk2 V c t = lanesAt (V c (Proc.devRef .tc main_v4_2)) ⟨t.val, t.isLt⟩ := by
  funext y
  unfold lanesAt
  show V c (Proc.devRef .tc main_v4_2) ((win2_2.blk t).view.emb y) = _
  congr 1
  blk_ext [ixB2]
theorem blk3_eq (c : Dev nD) (t : Fin cfg2.N) : blk3 V c t = lanesAt (V c (Proc.devRef .tc main_v13)) ⟨t.val, t.isLt⟩ := by
  funext y
  unfold lanesAt
  show V c (Proc.devRef .tc main_v13) ((win2_3.blk t).view.emb y) = _
  congr 1
  blk_ext [ixB3]

theorem at_place (t : Fin 40) (x : S8x5000x1000.Idx) (y : S1x1000x1000.Idx) (h0 : (x 0).val = t.val / 5) (h1 : (x 1).val = t.val % 5 * 1000 + (y 1).val)
    (h2 : (x 2).val = (y 2).val) : pointOfO x = t ∧ placeOfO x = y := by
  have e0 : (y 0).val < 1 := (y 0).isLt
  have e1 : (y 1).val < 1000 := (y 1).isLt
  refine ⟨Fin.ext ?_, ?_⟩
  · show (x 0).val * 5 + (x 1).val / 1000 = t.val
    omega
  funext a
  apply Fin.ext
  match a with
  | ⟨0, _⟩ => show 0 = (y 0).val; omega
  | ⟨1, _⟩ => show (x 1).val % 1000 = (y 1).val; omega
  | ⟨2, _⟩ => exact h2

/-- The output is its points' blocks, whatever the proof data. -/
theorem arrB4 (c : Dev nD) (dat : Dat τ (Elt F) (HIx 1) ℕ UU ℕ cfg2 c) (P : Fin 40 → S1x1000x1000.Idx → Elt F .f32)
    (hP : ∀ t : Fin cfg2.N, dat.after 4 t = P ⟨t.val, t.isLt⟩) : dat.arrAt 4 cfg2.N = fun x : S8x5000x1000.Idx => P (pointOfO x) (placeOfO x) := by
  refine dat.arrAt_eq_of_covers 4 _ (by decide +kernel) fun t hf y => ?_
  blk_simp
  rw [hP]
  have h := at_place ⟨t.val, t.isLt⟩ ((win2_4.blk t).view.emb y) y (by blk_simp [ixB4]) (by blk_simp [ixB4]) (by blk_simp [ixB4])
  rw [h.1, h.2]
theorem finalB4 (c : Dev nD) : (datB V c).arrAt 4 cfg2.N
    = gOut (V c (Proc.devRef .tc main_arg0)) (V c (Proc.devRef .tc main_v3)) (V c (Proc.devRef .tc main_v4_2)) (V c (Proc.devRef .tc main_v13)) :=
  arrB4 c (datB V c) (pOut (V c (Proc.devRef .tc main_arg0)) (V c (Proc.devRef .tc main_v3)) (V c (Proc.devRef .tc main_v4_2)) (V c (Proc.devRef .tc main_v13)))
    fun t => (afterB4 V c t).trans (by rw [blk0_eq, blk1_eq, blk2_eq, blk3_eq, pOut])

end Cert.Proof.PI
-- ==== Proof.PIBound.lean ====
/-
  The index the first region writes: a fold of signed minima over lanes whose words are small, so a small word itself.
-/
module

public import proofs.«01_k».proof.Proof.PISetUp
public import proofs.«01_k».proof.Proof.PIRegA

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

/-- The signed minimum of two words below the sign bit is the minimum of their values. -/
theorem minsi_toNat {a b : BitVec 32} (ha : a.toNat < 2147483648) (hb : b.toNat < 2147483648) :
    (IntOp.minsi a b).toNat = min a.toNat b.toNat := by
  unfold IntOp.minsi
  have e : a.slt b = decide (a.toNat < b.toNat) := by
    rw [BitVec.slt_eq_decide, BitVec.toInt_eq_toNat_cond, BitVec.toInt_eq_toNat_cond, if_pos (by omega), if_pos (by omega)]
    simp
  first
    | (rw [e]; by_cases hlt : a.toNat < b.toNat
       · simp only [hlt, decide_true, if_true]; omega
       · simp only [hlt, decide_false, if_false, Bool.false_eq_true]; omega)

/-- A fold of signed minima over words below the sign bit: at most each of them, and one of them unless it is the start. -/
theorem fold_minsi {ι : Type} [DecidableEq ι] (s : Finset ι) (f : ι → BitVec 32) (acc : BitVec 32) (hacc : acc.toNat < 2147483648)
    (hf : ∀ i ∈ s, (f i).toNat < 2147483648) :
    (s.fold IntOp.minsi acc f).toNat ≤ acc.toNat ∧ (∀ i ∈ s, (s.fold IntOp.minsi acc f).toNat ≤ (f i).toNat)
      ∧ (s.fold IntOp.minsi acc f = acc ∨ ∃ i ∈ s, s.fold IntOp.minsi acc f = f i) := by
  induction s using Finset.induction_on with
  | empty => exact ⟨le_of_eq (by rw [Finset.fold_empty]), fun i hi => absurd hi (Finset.notMem_empty i), Or.inl (by rw [Finset.fold_empty])⟩
  | insert a s ha ih =>
    obtain ⟨h1, h2, h3⟩ := ih fun i hi => hf i (Finset.mem_insert_of_mem hi)
    have hfa := hf a (Finset.mem_insert_self a s)
    have hm := minsi_toNat hfa (show (s.fold IntOp.minsi acc f).toNat < 2147483648 by omega)
    rw [Finset.fold_insert ha]
    refine ⟨by omega, fun i hi => ?_, ?_⟩
    · rcases Finset.mem_insert.mp hi with rfl | hi
      · omega
      · have := h2 i hi; omega
    · by_cases hlt : (f a).toNat ≤ (s.fold IntOp.minsi acc f).toNat
      · exact Or.inr ⟨a, Finset.mem_insert_self a s, BitVec.eq_of_toNat_eq (by omega)⟩
      · have e : IntOp.minsi (f a) (s.fold IntOp.minsi acc f) = s.fold IntOp.minsi acc f := BitVec.eq_of_toNat_eq (by omega)
        rw [e]
        rcases h3 with h3 | ⟨i, hi, h3⟩
        · exact Or.inl h3
        · exact Or.inr ⟨i, Finset.mem_insert_of_mem hi, h3⟩

/-- A row's lane `k`, as an index of the block's two axes. -/
def rowLane (q k : ℕ) (hq : q < 1000) (hk : k < 1001) : S1000x1001.Idx := ix2 (n0 := 1000) (n1 := 1001) ⟨q, hq⟩ ⟨k, hk⟩

theorem drop_rowLane (j : S1000.Idx) (k : ℕ) (hk : k < 1001) : reduces_S1000x1001_S1000.drop (rowLane (j 0).val k (j 0).isLt hk) = j := by
  funext a
  have : a = 0 := Fin.fin_one_eq_zero a
  subst this
  exact Fin.ext (by first | rfl | (rw [Shape.Reduces.drop_apply_val_of_eq]; rfl) | simp [rowLane])

/-- The words the index is the least of: the lane's number where it attains the row's greatest, else 1001. -/
def laneWords (v0 : Vec F S1x1000x1001 .f32) (v2 : Vec F S1x1x1001 .f32) : IVec S1000x1001 32 :=
  select (cmpf .oeq (k0_pay5 v0 v2) (broadcastTo S1000x1001 (shapeCast S1000x1 (k0_pay6 v0 v2) shapeCasts_S1000_S1000x1) broadcasts_S1000x1_S1000x1001))
    (iota .tc S1000x1001 32 [1] iota_S1000x1001_d1_w32) (broadcast S1000x1001 1001#32)

theorem pay7_eq (v0 : Vec F S1x1000x1001 .f32) (v2 : Vec F S1x1x1001 .f32) (j : S1000.Idx) :
    k0_pay7 v0 v2 j = (Finset.univ.filter fun i => reduces_S1000x1001_S1000.drop i = j).fold IntOp.minsi 2147483647#32 (laneWords v0 v2) := by
  unfold k0_pay7
  exact multiReductionI_eq_fold _ _ _ _ _ _

theorem laneWords_lt (v0 : Vec F S1x1000x1001 .f32) (v2 : Vec F S1x1x1001 .f32) (i : S1000x1001.Idx) : (laneWords v0 v2 i).toNat ≤ 1001 := by
  have h1 : (i 1).val < 1001 := (i 1).isLt
  have hi : (iota .tc S1000x1001 32 [1] iota_S1000x1001_d1_w32 i).toNat ≤ 1001 := by
    have e : iota .tc S1000x1001 32 [1] iota_S1000x1001_d1_w32 i = BitVec.ofNat 32 (i 1).val := by
      first | rfl | simp [iota]
    rw [e, BitVec.toNat_ofNat]; omega
  unfold laneWords select
  dsimp only
  unfold Scalar.select
  split
  · exact hi
  · exact (by decide : (1001#32).toNat ≤ 1001)

theorem pay7_le (v0 : Vec F S1x1000x1001 .f32) (v2 : Vec F S1x1x1001 .f32) (j : S1000.Idx) : (k0_pay7 v0 v2 j).toNat ≤ 1001 := by
  rw [pay7_eq]
  have h := fold_minsi (Finset.univ.filter fun i => reduces_S1000x1001_S1000.drop i = j) (laneWords v0 v2) 2147483647#32 (by decide)
    fun i _ => lt_of_le_of_lt (laneWords_lt v0 v2 i) (by decide)
  exact (h.2.1 (rowLane (j 0).val 0 (j 0).isLt (by decide)) (Finset.mem_filter.mpr ⟨Finset.mem_univ _, drop_rowLane j 0 (by decide)⟩)).trans (laneWords_lt v0 v2 _)

theorem gIdx_le (A : FVec F S8x5000x1001 .f32) (B : FVec F S8x1x1001 .f32) (x : S40x1x1000.Idx) : (gIdx A B x).toNat ≤ 1001 := by
  unfold gIdx pIdx k0_pay1 shapeCast
  exact pay7_le _ _ _

end Cert.Proof.PI
-- ==== Proof.PITile.lean ====
/-
  The SparseCore kernel's body on one vector subcore: the three fetches of its row, the table's four loops, the
  write-out of the row; its row of the output is the row's dedup.
-/
module

public import proofs.«01_k».proof.Proof.PISetUp

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
abbrev iW : Memref sig .scVector .hbm S8x5120 .i32 := Memref.whole main_v6_scv
abbrev sW : Memref sig .scVector .hbm S8x5120 .f32 := Memref.whole main_v8_scv
abbrev vW : Memref sig .scVector .hbm S8x5120 .f32 := Memref.whole main_v10_scv
abbrev oW : Memref sig .scVector .hbm S8x5120 .f32 := Memref.whole main_v11_scv
abbrev mI : Memref sig .scVector .vmem S5120 .i32 := Memref.whole cc1_scratch0
abbrev mS : Memref sig .scVector .vmem S5120 .f32 := Memref.whole cc1_scratch1
abbrev mV : Memref sig .scVector .vmem S5120 .f32 := Memref.whole cc1_scratch2
abbrev mO : Memref sig .scVector .vmem S5120 .f32 := Memref.whole cc1_scratch3
abbrev mT : Memref sig .scVector .vmem S16128 .f32 := Memref.whole cc1_scratch4

/-! ## Rows -/

/-- The row of the four arrays the vector subcore at `L` works on, if below 8. -/
def wid (L : grid1.Coords) : ℕ := 2 * (L 1).val + (L 0).val

/-- Row `w` of an array of eight rows (none of it when `w` is no row). -/
def rowSet (w : ℕ) : Finset S8x5120.Idx := Finset.univ.filter fun x => (x 0).val = w

theorem L0_lt (L : grid1.Coords) : (L 0).val < 2 := (L 0).isLt
theorem L1_lt (L : grid1.Coords) : (L 1).val < 16 := (L 1).isLt

theorem cond_iff (L : grid1.Coords) : k1_cond1 L = 1#1 ↔ wid L < 8 := by
  have h : ∀ a : Fin 2, ∀ b : Fin 16, (Scalar.cmpi .ne (Scalar.extui (Scalar.cmpi .slt
      (Scalar.addi (Scalar.muli (BitVec.ofNat 32 b.val) 2#32) (BitVec.ofNat 32 a.val)) 8#32)) 0#32 = 1#1) ↔ 2 * b.val + a.val < 8 := by
    decide
  exact h (L 0) (L 1)

theorem off1_zero (L : grid1.Coords) : k1_off1 L 0 = wid L := by
  have h : ∀ a : Fin 2, ∀ b : Fin 16,
      (Scalar.addi (Scalar.muli (BitVec.ofNat 32 b.val) 2#32) (BitVec.ofNat 32 a.val)).toNat = 2 * b.val + a.val := by decide
  exact h (L 0) (L 1)
theorem off1_one (L : grid1.Coords) : k1_off1 L 1 = 0 := rfl

section Tile

variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)

abbrev rk (h : k1_cond1 L = 1#1) : Rect S8x5120 := Rect.unit (s := S8x5120) (k1_off1 L) S1x5120.size (k1_off1_inb L h)
abbrev iR (h : k1_cond1 L = 1#1) : Memref sig .scVector .hbm S5120 .i32 := (iW.slice (rk L h) (fun _ => rfl)).squeeze S5120 squeezes_S1x5120_S5120
abbrev sR (h : k1_cond1 L = 1#1) : Memref sig .scVector .hbm S5120 .f32 := (sW.slice (rk L h) (fun _ => rfl)).squeeze S5120 squeezes_S1x5120_S5120
abbrev vR (h : k1_cond1 L = 1#1) : Memref sig .scVector .hbm S5120 .f32 := (vW.slice (rk L h) (fun _ => rfl)).squeeze S5120 squeezes_S1x5120_S5120
abbrev oR (h : k1_cond1 L = 1#1) : Memref sig .scVector .hbm S5120 .f32 := (oW.slice (rk L h) (fun _ => rfl)).squeeze S5120 squeezes_S1x5120_S5120

theorem rk_set (h : k1_cond1 L = 1#1) : (rk L h).set = rowSet (wid L) := by
  ext x
  have h0 : ((x 0 : Fin _) : ℕ) < 8 := (x 0).isLt
  have h1 : ((x 1 : Fin _) : ℕ) < 5120 := (x 1).isLt
  rw [Rect.mem_set_unit, rowSet, Finset.mem_filter]
  constructor
  · intro hx
    refine ⟨Finset.mem_univ _, ?_⟩
    have := hx 0
    rw [off1_zero] at this
    have h2 : S1x5120.size 0 = 1 := rfl
    omega
  · rintro ⟨-, hx⟩ a
    match a with
    | 0 => rw [off1_zero]; exact ⟨hx.ge, by rw [hx]; exact Nat.lt_succ_self _⟩
    | 1 => exact ⟨Nat.zero_le _, by rw [off1_one, Nat.zero_add]; exact h1⟩

theorem iR_set (h : k1_cond1 L = 1#1) : (iR L h).view.set = rowSet (wid L) := by
  show ((iW.view.slice (rk L h)).reshape S5120 squeezes_S1x5120_S5120.numel_eq).set = _
  rw [View.set_reshape, View.set_slice_whole, rk_set]
theorem sR_set (h : k1_cond1 L = 1#1) : (sR L h).view.set = rowSet (wid L) := by
  show ((sW.view.slice (rk L h)).reshape S5120 squeezes_S1x5120_S5120.numel_eq).set = _
  rw [View.set_reshape, View.set_slice_whole, rk_set]
theorem vR_set (h : k1_cond1 L = 1#1) : (vR L h).view.set = rowSet (wid L) := by
  show ((vW.view.slice (rk L h)).reshape S5120 squeezes_S1x5120_S5120.numel_eq).set = _
  rw [View.set_reshape, View.set_slice_whole, rk_set]
theorem oR_set (h : k1_cond1 L = 1#1) : (oR L h).view.set = rowSet (wid L) := by
  show ((oW.view.slice (rk L h)).reshape S5120 squeezes_S1x5120_S5120.numel_eq).set = _
  rw [View.set_reshape, View.set_slice_whole, rk_set]

/-- Place `(w, j)` of an array of eight rows. -/
def cell (w : ℕ) (j : S5120.Idx) : S8x5120.Idx := fun a =>
  match a with
  | ⟨0, _⟩ => ⟨w % 8, Nat.mod_lt _ (by decide)⟩
  | ⟨1, _⟩ => ⟨(j 0).val, (j 0).isLt⟩

/-- The row's place `j` as the slice of one row numbers it. -/
def sliced (j : S5120.Idx) : S1x5120.Idx := fun a =>
  match a with
  | ⟨0, _⟩ => ⟨0, Nat.one_pos⟩
  | ⟨1, _⟩ => ⟨(j 0).val, (j 0).isLt⟩

theorem reshape_row (hn : S5120.numel = S1x5120.numel) (j : S5120.Idx) : Shape.reshapeEquiv hn j = sliced j := by
  refine Shape.reshapeEquiv_eq_of_rowMajor _ ?_
  rw [Shape.rowMajor_val_two, Shape.rowMajor_val_one]
  have h0 : (sliced j 0).val = 0 := rfl
  have h1 : (sliced j 1).val = (j 0).val := rfl
  rw [h0, h1, Nat.zero_mul, Nat.zero_add]

theorem emb_row (h : k1_cond1 L = 1#1) (j : S5120.Idx) : (rk L h).emb (sliced j) = cell (wid L) j := by
  have hw := (cond_iff L).mp h
  refine Rect.emb_eq_of_coords _ _ _ fun a => ?_
  match a with
  | ⟨0, _⟩ =>
    have h0 : (sliced j 0).val = 0 := rfl
    show wid L % 8 = k1_off1 L 0 + 1 * (sliced j 0).val
    rw [off1_zero, h0]; omega
  | ⟨1, _⟩ =>
    have h1 : (sliced j 1).val = (j 0).val := rfl
    show (cell (wid L) j 1).val = k1_off1 L 1 + 1 * (sliced j 1).val
    rw [off1_one, h1, Nat.zero_add, Nat.one_mul]; rfl

theorem emb_iR (h : k1_cond1 L = 1#1) (j : S5120.Idx) : (iR L h).view.emb j = cell (wid L) j := by
  show (rk L h).emb (Shape.reshapeEquiv squeezes_S1x5120_S5120.numel_eq j) = _
  rw [reshape_row, emb_row]
theorem emb_sR (h : k1_cond1 L = 1#1) (j : S5120.Idx) : (sR L h).view.emb j = cell (wid L) j := by
  show (rk L h).emb (Shape.reshapeEquiv squeezes_S1x5120_S5120.numel_eq j) = _
  rw [reshape_row, emb_row]
theorem emb_vR (h : k1_cond1 L = 1#1) (j : S5120.Idx) : (vR L h).view.emb j = cell (wid L) j := by
  show (rk L h).emb (Shape.reshapeEquiv squeezes_S1x5120_S5120.numel_eq j) = _
  rw [reshape_row, emb_row]
theorem emb_oR (h : k1_cond1 L = 1#1) (j : S5120.Idx) : (oR L h).view.emb j = cell (wid L) j := by
  show (rk L h).emb (Shape.reshapeEquiv squeezes_S1x5120_S5120.numel_eq j) = _
  rw [reshape_row, emb_row]

end Tile

end Cert.Proof.PI
-- ==== Proof.PITrips.lean ====
/-
  One trip of each of the SparseCore kernel's four loops, as values: the table filled, the table updated by sixteen
  queries (a gather, a maximum, a scatter), the lanes' stretches merged, sixteen places of the output row.
-/
module

public import proofs.«01_k».proof.Proof.PITile

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## Sixteen places of a row, of the table -/

/-- Lane `n`. -/
def laneAt (n : ℕ) : S16.Idx := Shape.ofLane (d := ![16]) ⟨n % 16, Nat.mod_lt _ (by decide)⟩

theorem rowAt_eq (x : S5120.Idx) (n : ℕ) (h : (x 0).val = n) : rowAt n = x := by
  have hx : ((x 0 : Fin _) : ℕ) < 5120 := (x 0).isLt
  funext a; obtain rfl : a = 0 := Subsingleton.elim _ _
  apply Fin.ext
  show n % 5120 = (x 0).val
  omega
theorem tabAt_eq (x : S16128.Idx) (n : ℕ) (h : (x 0).val = n) : tabAt n = x := by
  have hx : ((x 0 : Fin _) : ℕ) < 16128 := (x 0).isLt
  funext a; obtain rfl : a = 0 := Subsingleton.elim _ _
  apply Fin.ext
  show n % 16128 = (x 0).val
  omega
theorem laneAt_eq (x : S16.Idx) (n : ℕ) (h : (x 0).val = n) : laneAt n = x := by
  have hx : ((x 0 : Fin _) : ℕ) < 16 := (x 0).isLt
  funext a; obtain rfl : a = 0 := Subsingleton.elim _ _
  apply Fin.ext
  show n % 16 = (x 0).val
  omega
theorem tabAt_val (n : ℕ) (h : n < 16128) : (tabAt n 0).val = n := Nat.mod_eq_of_lt h
theorem rowAt_val (n : ℕ) (h : n < 5120) : (rowAt n 0).val = n := Nat.mod_eq_of_lt h
theorem laneAt_val (n : ℕ) (h : n < 16) : (laneAt n 0).val = n := Nat.mod_eq_of_lt h

theorem ldT (f : Tab (F := F)) (o : Fin 1 → ℕ) (h) (x : S16.Idx) :
    mT.view.readAt (Elt F) (Rect.unit (s := S16128) o S16.size h).toLoadRect f x = f (tabAt (o 0 + (x 0).val)) := by
  rw [View.readAt_apply]
  show f _ = f _
  refine congrArg f (tabAt_eq _ _ ?_).symm
  show o 0 + 1 * (x 0).val = _
  omega
theorem ldI (f : RowI) (o : Fin 1 → ℕ) (h) (x : S16.Idx) :
    mI.view.readAt (Elt F) (Rect.unit (s := S5120) o S16.size h).toLoadRect f x = f (rowAt (o 0 + (x 0).val)) := by
  rw [View.readAt_apply]
  show f _ = f _
  refine congrArg f (rowAt_eq _ _ ?_).symm
  show o 0 + 1 * (x 0).val = _
  omega
theorem ldS (f : RowF (F := F)) (o : Fin 1 → ℕ) (h) (x : S16.Idx) :
    mS.view.readAt (Elt F) (Rect.unit (s := S5120) o S16.size h).toLoadRect f x = f (rowAt (o 0 + (x 0).val)) := by
  rw [View.readAt_apply]
  show f _ = f _
  refine congrArg f (rowAt_eq _ _ ?_).symm
  show o 0 + 1 * (x 0).val = _
  omega
theorem ldV (f : RowF (F := F)) (o : Fin 1 → ℕ) (h) (x : S16.Idx) :
    mV.view.readAt (Elt F) (Rect.unit (s := S5120) o S16.size h).toLoadRect f x = f (rowAt (o 0 + (x 0).val)) := ldS f o h x

theorem stT (f : Tab (F := F)) (w : S16.Idx → F .f32) (o : Fin 1 → ℕ) (h) (y : S16128.Idx) :
    (mT.view.slice (Rect.unit (s := S16128) o S16.size h)).write (Elt F) f w Finset.univ y
      = if o 0 ≤ (y 0).val ∧ (y 0).val < o 0 + 16 then w (laneAt ((y 0).val - o 0)) else f y := by
  split
  · rename_i hy
    have := View.read_writes_cons_hit_of_coords mT.view (Val := Elt F) f (Rect.unit (s := S16128) o S16.size h) w [] (laneAt ((y 0).val - o 0)) y (fun a => by
      obtain rfl : a = 0 := Subsingleton.elim _ _
      show (y 0).val = o 0 + 1 * (laneAt ((y 0).val - o 0) 0).val
      rw [laneAt_val _ (by omega)]; omega)
    exact this
  · rename_i hy
    refine View.write_of_not_mem _ _ _ ?_
    intro hm
    rw [View.setOn_univ, View.set_slice_whole, Rect.mem_set_unit] at hm
    exact hy (hm 0)
theorem stO (f : RowF (F := F)) (w : S16.Idx → F .f32) (o : Fin 1 → ℕ) (h) (y : S5120.Idx) :
    (mO.view.slice (Rect.unit (s := S5120) o S16.size h)).write (Elt F) f w Finset.univ y
      = if o 0 ≤ (y 0).val ∧ (y 0).val < o 0 + 16 then w (laneAt ((y 0).val - o 0)) else f y := by
  split
  · rename_i hy
    have := View.read_writes_cons_hit_of_coords mO.view (Val := Elt F) f (Rect.unit (s := S5120) o S16.size h) w [] (laneAt ((y 0).val - o 0)) y (fun a => by
      obtain rfl : a = 0 := Subsingleton.elim _ _
      show (y 0).val = o 0 + 1 * (laneAt ((y 0).val - o 0) 0).val
      rw [laneAt_val _ (by omega)]; omega)
    exact this
  · rename_i hy
    refine View.write_of_not_mem _ _ _ ?_
    intro hm
    rw [View.setOn_univ, View.set_slice_whole, Rect.mem_set_unit] at hm
    exact hy (hm 0)

/-! ## The trips' offsets -/

theorem off2_eq : ∀ t : Fin k1_t1_loop.trips, k1_off2 t 0 = 16 * t.val := by decide +kernel
theorem off3_eq : ∀ t : Fin k1_t2_loop.trips, k1_off3 t 0 = 16 * t.val := by decide +kernel
theorem off4_eq : ∀ t : Fin k1_t3_loop.trips, k1_off4 t 0 = 16 * t.val := by decide +kernel
theorem off5_eq : ∀ t : Fin k1_t3_loop.trips, ∀ r : Fin 15, k1_off5 t (BitVec.ofNat 32 (1008 + 1008 * r.val)) 0 = 1008 * (r.val + 1) + 16 * t.val := by
  decide +kernel
theorem off6_eq : ∀ t : Fin k1_t4_loop.trips, k1_off6 t 0 = 16 * t.val := by decide +kernel
theorem off7_eq : ∀ t : Fin k1_t4_loop.trips, k1_off7 t 0 = 16 * t.val := by decide +kernel

/-! ## A scatter of lanes at distinct places -/

theorem scatter_eq {d : Fin 1 → ℕ} {s : Shape} (f : Vec F s .f32) (idxs : Fin s.rank → IVec ⟨1, d⟩ 32) (v : Vec F ⟨1, d⟩ .f32)
    (h : ∀ a x, (idxs a x).toNat < s.size a) :
    storeIdx f idxs v (fun _ => 1#1) false h
      = (List.finRange (d 0)).foldl (fun g k j => if ∀ a, (j a).val = (idxAt idxs h (Shape.ofLane k) a).val then v (Shape.ofLane k) else g j) f := by
  unfold storeIdx
  congr 1
  funext g k j
  simp only [↓reduceIte, Bool.false_eq_true, BitVec.ofNat_eq_ofNat]

theorem scatter_miss {d : Fin 1 → ℕ} {s : Shape} (f : Vec F s .f32) (idxs : Fin s.rank → IVec ⟨1, d⟩ 32) (v : Vec F ⟨1, d⟩ .f32)
    (h : ∀ a x, (idxs a x).toNat < s.size a) (j : s.Idx) (hj : ∀ k, idxAt idxs h (Shape.ofLane k) ≠ j) :
    storeIdx f idxs v (fun _ => 1#1) false h j = f j := by
  rw [scatter_eq]
  generalize List.finRange (d 0) = l
  induction l generalizing f with
  | nil => rfl
  | cons k l ih =>
    rw [List.foldl_cons, ih]
    exact if_neg fun hk => hj k (funext fun a => Fin.ext (hk a).symm)

theorem scatter_hit {d : Fin 1 → ℕ} {s : Shape} (f : Vec F s .f32) (idxs : Fin s.rank → IVec ⟨1, d⟩ 32) (v : Vec F ⟨1, d⟩ .f32)
    (h : ∀ a x, (idxs a x).toNat < s.size a) (k₀ : Fin (d 0))
    (hj : ∀ k, idxAt idxs h (Shape.ofLane k) = idxAt idxs h (Shape.ofLane k₀) → k = k₀) :
    storeIdx f idxs v (fun _ => 1#1) false h (idxAt idxs h (Shape.ofLane k₀)) = v (Shape.ofLane k₀) := by
  rw [scatter_eq]
  have H : ∀ (l : List (Fin (d 0))) (g : Vec F s .f32), (k₀ ∈ l ∨ g (idxAt idxs h (Shape.ofLane k₀)) = v (Shape.ofLane k₀)) →
      l.foldl (fun (g : Vec F s .f32) k j => if ∀ a, (j a).val = (idxAt idxs h (Shape.ofLane k) a).val then v (Shape.ofLane k) else g j) g
        (idxAt idxs h (Shape.ofLane k₀)) = v (Shape.ofLane k₀) := by
    intro l
    induction l with
    | nil => intro g hg; exact hg.resolve_left List.not_mem_nil
    | cons k l ih =>
      intro g hg
      rw [List.foldl_cons]
      apply ih
      by_cases hk : k = k₀
      · right; subst hk; exact if_pos fun _ => rfl
      · rcases hg with hg | hg
        · left; exact (List.mem_cons.mp hg).resolve_left (Ne.symm hk)
        · right
          exact (if_neg fun hh => hk (hj k (funext fun a => Fin.ext (hh a).symm))).trans hg
  exact H _ f (Or.inl (List.mem_finRange _))

/-! ## The trips' values -/

theorem pay5_toNat (v : Vec F S16 .i32) (x : S16.Idx) (hv : (v x : BitVec 32).toNat < 1008) : (k1_pay5 (F := F) v x).toNat = 1008 * (x 0).val + (v x : BitVec 32).toNat := by
  have hx : ((x 0 : Fin _) : ℕ) < 16 := (x 0).isLt
  have h : (k1_pay5 (F := F) v x) = BitVec.ofNat 32 (0 * 16 + (x 0).val) * 1008#32 + (v x : BitVec 32) := rfl
  rw [h, BitVec.toNat_add, BitVec.toNat_mul, BitVec.toNat_ofNat]
  show ((0 * 16 + (x 0).val) % 2 ^ 32 * 1008 % 2 ^ 32 + _) % 2 ^ 32 = _
  omega

/-- The table's loop, one trip: sixteen queries gathered, maximized with their scores and scattered back. -/
theorem tab_step (ix : RowI) (sm : RowF (F := F)) (hix : ∀ j, (ix j).toNat < 1008) (n : ℕ)
    (v14 : Vec F S16 .i32) (v17 : Vec F S16 .f32) (h14 : ∀ x, v14 x = ix (rowAt (16 * n + (x 0).val))) (h17 : ∀ x, v17 x = sm (rowAt (16 * n + (x 0).val)))
    (h h') :
    storeIdx (F := F) (e := .f32) (s := S16128) (d := ![16]) (tab ix sm n) ![k1_pay5 (F := F) v14] (k1_pay6 v17 (loadIdx (F := F) (s := S16128) (e := .f32) (tab ix sm n) ![k1_pay5 (F := F) v14] h)) (fun _ => 1#1) false h'
      = tab ix sm (n + 1) := by
  funext y
  have hy : ((y 0 : Fin _) : ℕ) < 16128 := (y 0).isLt
  have hi : ∀ x : S16.Idx, (idxAt (s := S16128) ![k1_pay5 (F := F) v14] h' x 0).val = 1008 * (x 0).val + (ix (rowAt (16 * n + (x 0).val))).toNat := fun x => by
    have := pay5_toNat (F := F) v14 x (by rw [h14]; exact hix _)
    rw [h14] at this; exact this
  have hlane : ∀ x : S16.Idx, ((x 0 : Fin _) : ℕ) < 16 := fun x => (x 0).isLt
  show _ = if (ix (rowAt (16 * n + (y 0).val / 1008))).toNat = (y 0).val % 1008 then _ else _
  split
  · rename_i hc
    have hl : (y 0).val / 1008 < 16 := by omega
    have e : idxAt (s := S16128) ![k1_pay5 (F := F) v14] h' (Shape.ofLane (d := ![16]) ⟨(y 0).val / 1008, hl⟩) = y := by
      funext a; obtain rfl : a = 0 := Subsingleton.elim _ _
      apply Fin.ext
      rw [hi]
      show 1008 * ((y 0).val / 1008) + (ix (rowAt (16 * n + (y 0).val / 1008))).toNat = _
      omega
    have := scatter_hit (F := F) (s := S16128) (d := ![16]) (tab ix sm n) ![k1_pay5 (F := F) v14] (k1_pay6 v17 (loadIdx (F := F) (s := S16128) (e := .f32) (tab ix sm n) ![k1_pay5 (F := F) v14] h)) h'
      ⟨(y 0).val / 1008, hl⟩ (fun k hk => by
        have := congrArg (fun i : S16128.Idx => (i 0).val) hk
        simp only [hi] at this
        have e1 : ∀ k : Fin 16, ((Shape.ofLane (d := ![16]) k) 0).val = k.val := fun _ => rfl
        have hk' : k.val < 16 := k.isLt
        have a1 := hix (rowAt (16 * n + k.val))
        have a2 := hix (rowAt (16 * n + (y 0).val / 1008))
        apply Fin.ext
        show k.val = (y 0).val / 1008
        have this' : 1008 * k.val + (ix (rowAt (16 * n + k.val))).toNat = 1008 * ((y 0).val / 1008) + (ix (rowAt (16 * n + (y 0).val / 1008))).toNat := this
        omega)
    rw [e] at this
    rw [this]
    show FloatOps.maximumf (tab ix sm n (idxAt (s := S16128) ![k1_pay5 (F := F) v14] h _)) (v17 _) = _
    rw [show idxAt (s := S16128) ![k1_pay5 (F := F) v14] h (Shape.ofLane (d := ![16]) ⟨(y 0).val / 1008, hl⟩) = y from e, h17]
    rfl
  · rename_i hc
    refine scatter_miss (F := F) (s := S16128) (d := ![16]) _ _ _ h' y fun k hk => hc ?_
    have := congrArg (fun i : S16128.Idx => (i 0).val) hk
    simp only [hi] at this
    have hk' : k.val < 16 := k.isLt
    have a1 := hix (rowAt (16 * n + k.val))
    have this' : 1008 * k.val + (ix (rowAt (16 * n + k.val))).toNat = (y 0).val := this
    have e2 : (y 0).val / 1008 = k.val := by omega
    rw [e2]; omega

/-- The table with the lanes' stretches merged into lane 0's at the first `16 n` classes. -/
def merged (t : Tab (F := F)) (n : ℕ) : Tab (F := F) := fun x => if (x 0).val < 16 * n then lanes t (x 0).val 15 else t x

theorem merged_of_ge (t : Tab (F := F)) (n c : ℕ) (h : 16 * n ≤ c) (hc : c < 16128) : merged t n (tabAt c) = t (tabAt c) := by
  unfold merged; rw [tabAt_val c hc, if_neg (by omega)]

/-- The output row's first `16 n` places written. -/
def outs (ix : RowI) (sm iv o : RowF (F := F)) (n : ℕ) : RowF (F := F) := fun x => if (x 0).val < 16 * n then dedup ix sm iv x else o x

end Cert.Proof.PI
-- ==== Proof.PIBody.lean ====
/-
  The SparseCore kernel's body on one vector subcore: the three fetches of its row, the four loops at their values, the
  write-out of the row; its row of the output is the row's dedup. A subcore with no row does nothing.
-/
module

public import proofs.«01_k».proof.Proof.PITrips

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid1.Coords)

abbrev pI (f : RowI) : sProp 𝕄 := mI.view.loc (thr d L) ↦{fullShare} (f : Buf (Elt F) (mI.view.loc (thr d L)))
abbrev pS (f : RowF (F := F)) : sProp 𝕄 := mS.view.loc (thr d L) ↦{fullShare} (f : Buf (Elt F) (mS.view.loc (thr d L)))
abbrev pV (f : RowF (F := F)) : sProp 𝕄 := mV.view.loc (thr d L) ↦{fullShare} (f : Buf (Elt F) (mV.view.loc (thr d L)))
abbrev pO (f : RowF (F := F)) : sProp 𝕄 := mO.view.loc (thr d L) ↦{fullShare} (f : Buf (Elt F) (mO.view.loc (thr d L)))
abbrev pT (f : Tab (F := F)) : sProp 𝕄 := mT.view.loc (thr d L) ↦{fullShare} (f : Buf (Elt F) (mT.view.loc (thr d L)))

/-- The fill's invariant: the table's first `16 n` places at the filler. -/
def inv1 (n : ℕ) (_ : PUnit) : sProp 𝕄 := iprop(∃ f : Tab (F := F), ⌜∀ x, (x 0).val < 16 * n → f x = neg⌝ ∗ pT d L f)
def inv2 (ix : RowI) (sm : RowF (F := F)) (n : ℕ) (_ : PUnit) : sProp 𝕄 := iprop(pI d L ix ∗ pS d L sm ∗ pT d L (tab ix sm n))
def inv3 (t : Tab (F := F)) (n : ℕ) (_ : PUnit) : sProp 𝕄 := pT d L (merged t n)
def inv4 (ix : RowI) (sm iv o : RowF (F := F)) (n : ℕ) (_ : PUnit) : sProp 𝕄 :=
  iprop(pI d L ix ∗ pS d L sm ∗ pV d L iv ∗ pT d L (merged (tab ix sm 320) 63) ∗ pO d L (outs ix sm iv o n))

/-- The table as the indexed operations address it. -/
theorem pT_access (f : Tab (F := F)) :
    pT d L f = ((mT.access (.whole S16128)).loc (thr d L) ↦[(mT.access (.whole S16128)).set]{fullShare} (f : Buf (Elt F) ((mT.access (.whole S16128)).loc (thr d L))) : sProp 𝕄) := by
  have hs : (mT.access (.whole S16128)).set = Finset.univ := by
    show (mT.view.slice (.whole S16128)).set = _
    rw [View.set_slice_whole]; exact Rect.set_whole _
  rw [hs]

variable (h : k1_cond1 L = 1#1)

theorem trip1 (k : Fin k1_t1_loop.trips) (a : PUnit) :
    inv1 (F := F) d L k.val a ⊢ wp frame (wpE (defs₀ (F := F)) 𝒱₀ (thr d L) none) Set.univ
      (k1_t1_body L iW (Memref.isWhole_whole _) sW (Memref.isWhole_whole _) vW (Memref.isWhole_whole _) oW (Memref.isWhole_whole _)
        mI (Memref.isWhole_whole _) mS (Memref.isWhole_whole _) mV (Memref.isWhole_whole _) mO (Memref.isWhole_whole _) mT (Memref.isWhole_whole _)
        cc1_scoped0 cc1_scoped1 cc1_scoped2 cc1_scoped3 h k a) fun r => inv1 (F := F) d L (k.val + 1) r := by
  unfold inv1 k1_t1_body
  iintro ⟨%f, %hf, H⟩
  sl_exec
  sl_step
  iexists _
  isplitr
  · ipureintro
    rotate_left
    · exact (mT.view.slice (Rect.unit (s := S16128) (k1_off2 k) S16.size (k1_off2_inb L k h))).write (Elt F) f (k1_pay4 (F := F)) Finset.univ
    intro x hx
    rw [stT]
    split
    · rfl
    · rename_i hn
      rw [off2_eq] at hn
      exact hf x (by omega)
  · iexact H

theorem trip2 (ix : RowI) (sm : RowF (F := F)) (hix : ∀ j, (ix j).toNat < 1008) (k : Fin k1_t2_loop.trips) (a : PUnit) :
    inv2 (F := F) d L ix sm k.val a ⊢ wp frame (wpE (defs₀ (F := F)) 𝒱₀ (thr d L) none) Set.univ
      (k1_t2_body L iW (Memref.isWhole_whole _) sW (Memref.isWhole_whole _) vW (Memref.isWhole_whole _) oW (Memref.isWhole_whole _)
        mI (Memref.isWhole_whole _) mS (Memref.isWhole_whole _) mV (Memref.isWhole_whole _) mO (Memref.isWhole_whole _) mT (Memref.isWhole_whole _)
        cc1_scoped0 cc1_scoped1 cc1_scoped2 cc1_scoped3 h k a) fun r => inv2 (F := F) d L ix sm (k.val + 1) r := by
  unfold inv2 k1_t2_body
  iintro ⟨HI, HS, HT⟩
  sl_exec
  have e14 : ∀ x, mI.view.readAt (Elt F) (Rect.unit (s := S5120) (k1_off3 k) S16.size (k1_off3_inb L k h)).toLoadRect ix x = ix (rowAt (16 * k.val + (x 0).val)) :=
    fun x => by rw [ldI, off3_eq]
  have hchk : k1_chk1 L (k1_pay5 (F := F) (mI.view.readAt (Elt F) (Rect.unit (s := S5120) (k1_off3 k) S16.size (k1_off3_inb L k h)).toLoadRect ix)) := by
    have : ∀ (a : Fin 1) (x : S16.Idx), ((![k1_pay5 (F := F) (mI.view.readAt (Elt F) (Rect.unit (s := S5120) (k1_off3 k) S16.size (k1_off3_inb L k h)).toLoadRect ix)] : Fin 1 → IVec S16 32) a x).toNat < S16128.size a := fun a x => by
      obtain rfl : a = 0 := Subsingleton.elim _ _
      have hx : ((x 0 : Fin _) : ℕ) < 16 := (x 0).isLt
      have hb := hix (rowAt (16 * k.val + (x 0).val))
      show (k1_pay5 (F := F) _ x).toNat < 16128
      rw [pay5_toNat _ _ (by rw [e14]; exact hb), e14]; omega
    exact ⟨fun _ => this, fun _ => this⟩
  rw [wp_assume_of _ _ _ _ (show k1_chk1 L (trip2.sl.v18 L h ix k) from hchk)]
  iapply (SparseCore.wp_vectorLoadIdx 𝒱₀ (thr d L) none Set.univ (base := mT) (S := Finset.univ) (q := fullShare) (Finset.subset_univ _)) $$ HT
  iintro HT
  ihave HT := (Entails.of_eq (pT_access d L _)) $$ HT
  iapply (SparseCore.wp_vectorStoreIdx 𝒱₀ (thr d L) none Set.univ (base := mT)) $$ HT
  iintro HT
  sl_step
  isplitl [HI]; · iexact HI
  isplitl [HS]; · iexact HS
  ihave HT := (Entails.of_eq (pT_access d L _).symm) $$ HT
  iapply (Entails.of_eq (congrArg (fun f => pT d L f) ?_)) $$ HT
  refine (Memref.write_access_whole_univ (Elt F) cc1_scratch4 _ _).trans ?_
  have hr : (mT.access (.whole S16128)).read (Elt F) (tab ix sm k.val) = tab ix sm k.val := Memref.read_access_whole (Elt F) cc1_scratch4 _
  rw [hr]
  exact tab_step ix sm hix k.val _ _ e14 (fun x => by rw [ldS, off3_eq]) _ _

theorem merge_chain (v0 v1 v2 v3 v4 v5 v6 v7 v8 v9 v10 v11 v12 v13 v14 v15 : FVec F S16 .f32) (x : S16.Idx) (t : Tab (F := F)) (c : ℕ) (h0 : v0 x = t (tabAt c))
    (h1 : v1 x = t (tabAt (1008 * (0 + 1) + c)))
    (h2 : v2 x = t (tabAt (1008 * (1 + 1) + c)))
    (h3 : v3 x = t (tabAt (1008 * (2 + 1) + c)))
    (h4 : v4 x = t (tabAt (1008 * (3 + 1) + c)))
    (h5 : v5 x = t (tabAt (1008 * (4 + 1) + c)))
    (h6 : v6 x = t (tabAt (1008 * (5 + 1) + c)))
    (h7 : v7 x = t (tabAt (1008 * (6 + 1) + c)))
    (h8 : v8 x = t (tabAt (1008 * (7 + 1) + c)))
    (h9 : v9 x = t (tabAt (1008 * (8 + 1) + c)))
    (h10 : v10 x = t (tabAt (1008 * (9 + 1) + c)))
    (h11 : v11 x = t (tabAt (1008 * (10 + 1) + c)))
    (h12 : v12 x = t (tabAt (1008 * (11 + 1) + c)))
    (h13 : v13 x = t (tabAt (1008 * (12 + 1) + c)))
    (h14 : v14 x = t (tabAt (1008 * (13 + 1) + c)))
    (h15 : v15 x = t (tabAt (1008 * (14 + 1) + c))) :
    k1_pay1 (k1_pay3 v0 v1 v2 v3 v4 v5 v6 v7 v8 v9 v10 v11) v12 v13 v14 v15 x = lanes t c 15 := by
  simp only [lanes]
  rw [← h0, ← h1, ← h2, ← h3, ← h4, ← h5, ← h6, ← h7, ← h8, ← h9, ← h10, ← h11, ← h12, ← h13, ← h14, ← h15]
  rfl

theorem merge_val (t : Tab (F := F)) (k : Fin k1_t3_loop.trips) (x : S16.Idx) (h0 h1 h2 h3 h4 h5 h6 h7 h8 h9 h10 h11 h12 h13 h14 h15) :
    (k1_pay1 (k1_pay3 (mT.view.readAt (Elt F) (Rect.unit (s := S16128) (k1_off4 k) S16.size (h0)).toLoadRect (merged t k.val)) (mT.view.readAt (Elt F) (Rect.unit (s := S16128) (k1_off5 k 1008#32) S16.size (h1)).toLoadRect (merged t k.val)) (mT.view.readAt (Elt F) (Rect.unit (s := S16128) (k1_off5 k 2016#32) S16.size (h2)).toLoadRect (merged t k.val)) (mT.view.readAt (Elt F) (Rect.unit (s := S16128) (k1_off5 k 3024#32) S16.size (h3)).toLoadRect (merged t k.val)) (mT.view.readAt (Elt F) (Rect.unit (s := S16128) (k1_off5 k 4032#32) S16.size (h4)).toLoadRect (merged t k.val)) (mT.view.readAt (Elt F) (Rect.unit (s := S16128) (k1_off5 k 5040#32) S16.size (h5)).toLoadRect (merged t k.val)) (mT.view.readAt (Elt F) (Rect.unit (s := S16128) (k1_off5 k 6048#32) S16.size (h6)).toLoadRect (merged t k.val)) (mT.view.readAt (Elt F) (Rect.unit (s := S16128) (k1_off5 k 7056#32) S16.size (h7)).toLoadRect (merged t k.val)) (mT.view.readAt (Elt F) (Rect.unit (s := S16128) (k1_off5 k 8064#32) S16.size (h8)).toLoadRect (merged t k.val)) (mT.view.readAt (Elt F) (Rect.unit (s := S16128) (k1_off5 k 9072#32) S16.size (h9)).toLoadRect (merged t k.val)) (mT.view.readAt (Elt F) (Rect.unit (s := S16128) (k1_off5 k 10080#32) S16.size (h10)).toLoadRect (merged t k.val)) (mT.view.readAt (Elt F) (Rect.unit (s := S16128) (k1_off5 k 11088#32) S16.size (h11)).toLoadRect (merged t k.val))) (mT.view.readAt (Elt F) (Rect.unit (s := S16128) (k1_off5 k 12096#32) S16.size (h12)).toLoadRect (merged t k.val)) (mT.view.readAt (Elt F) (Rect.unit (s := S16128) (k1_off5 k 13104#32) S16.size (h13)).toLoadRect (merged t k.val)) (mT.view.readAt (Elt F) (Rect.unit (s := S16128) (k1_off5 k 14112#32) S16.size (h14)).toLoadRect (merged t k.val)) (mT.view.readAt (Elt F) (Rect.unit (s := S16128) (k1_off5 k 15120#32) S16.size (h15)).toLoadRect (merged t k.val))) x = lanes t (16 * k.val + (x 0).val) 15 := by
  have hk : k.val < 63 := k.isLt
  have hx : ((x 0 : Fin _) : ℕ) < 16 := (x 0).isLt
  have e0 : k1_off5 k 1008#32 0 = 1008 * (0 + 1) + 16 * k.val := off5_eq k 0
  have e1 : k1_off5 k 2016#32 0 = 1008 * (1 + 1) + 16 * k.val := off5_eq k 1
  have e2 : k1_off5 k 3024#32 0 = 1008 * (2 + 1) + 16 * k.val := off5_eq k 2
  have e3 : k1_off5 k 4032#32 0 = 1008 * (3 + 1) + 16 * k.val := off5_eq k 3
  have e4 : k1_off5 k 5040#32 0 = 1008 * (4 + 1) + 16 * k.val := off5_eq k 4
  have e5 : k1_off5 k 6048#32 0 = 1008 * (5 + 1) + 16 * k.val := off5_eq k 5
  have e6 : k1_off5 k 7056#32 0 = 1008 * (6 + 1) + 16 * k.val := off5_eq k 6
  have e7 : k1_off5 k 8064#32 0 = 1008 * (7 + 1) + 16 * k.val := off5_eq k 7
  have e8 : k1_off5 k 9072#32 0 = 1008 * (8 + 1) + 16 * k.val := off5_eq k 8
  have e9 : k1_off5 k 10080#32 0 = 1008 * (9 + 1) + 16 * k.val := off5_eq k 9
  have e10 : k1_off5 k 11088#32 0 = 1008 * (10 + 1) + 16 * k.val := off5_eq k 10
  have e11 : k1_off5 k 12096#32 0 = 1008 * (11 + 1) + 16 * k.val := off5_eq k 11
  have e12 : k1_off5 k 13104#32 0 = 1008 * (12 + 1) + 16 * k.val := off5_eq k 12
  have e13 : k1_off5 k 14112#32 0 = 1008 * (13 + 1) + 16 * k.val := off5_eq k 13
  have e14 : k1_off5 k 15120#32 0 = 1008 * (14 + 1) + 16 * k.val := off5_eq k 14
  have m : ∀ l, l < 16 → merged t k.val (tabAt (1008 * l + 16 * k.val + (x 0).val)) = t (tabAt (1008 * l + (16 * k.val + (x 0).val))) := fun l hl => by
    rw [Nat.add_assoc]; exact merged_of_ge t _ _ (by omega) (by omega)
  have m0 : merged t k.val (tabAt (16 * k.val + (x 0).val)) = t (tabAt (16 * k.val + (x 0).val)) := merged_of_ge t _ _ (by omega) (by omega)
  exact merge_chain _ _ _ _ _ _ _ _ _ _ _ _ _ _ _ _ x t (16 * k.val + (x 0).val) ((ldT _ _ _ _).trans (by rw [off4_eq, m0]))
    ((ldT _ _ _ _).trans (by rw [e0, m (0 + 1) (by omega)]))
    ((ldT _ _ _ _).trans (by rw [e1, m (1 + 1) (by omega)]))
    ((ldT _ _ _ _).trans (by rw [e2, m (2 + 1) (by omega)]))
    ((ldT _ _ _ _).trans (by rw [e3, m (3 + 1) (by omega)]))
    ((ldT _ _ _ _).trans (by rw [e4, m (4 + 1) (by omega)]))
    ((ldT _ _ _ _).trans (by rw [e5, m (5 + 1) (by omega)]))
    ((ldT _ _ _ _).trans (by rw [e6, m (6 + 1) (by omega)]))
    ((ldT _ _ _ _).trans (by rw [e7, m (7 + 1) (by omega)]))
    ((ldT _ _ _ _).trans (by rw [e8, m (8 + 1) (by omega)]))
    ((ldT _ _ _ _).trans (by rw [e9, m (9 + 1) (by omega)]))
    ((ldT _ _ _ _).trans (by rw [e10, m (10 + 1) (by omega)]))
    ((ldT _ _ _ _).trans (by rw [e11, m (11 + 1) (by omega)]))
    ((ldT _ _ _ _).trans (by rw [e12, m (12 + 1) (by omega)]))
    ((ldT _ _ _ _).trans (by rw [e13, m (13 + 1) (by omega)]))
    ((ldT _ _ _ _).trans (by rw [e14, m (14 + 1) (by omega)]))

theorem trip3 (t : Tab (F := F)) (k : Fin k1_t3_loop.trips) (a : PUnit) :
    inv3 (F := F) d L t k.val a ⊢ wp frame (wpE (defs₀ (F := F)) 𝒱₀ (thr d L) none) Set.univ
      (k1_t3_body L iW (Memref.isWhole_whole _) sW (Memref.isWhole_whole _) vW (Memref.isWhole_whole _) oW (Memref.isWhole_whole _)
        mI (Memref.isWhole_whole _) mS (Memref.isWhole_whole _) mV (Memref.isWhole_whole _) mO (Memref.isWhole_whole _) mT (Memref.isWhole_whole _)
        cc1_scoped0 cc1_scoped1 cc1_scoped2 cc1_scoped3 h k a) fun r => inv3 (F := F) d L t (k.val + 1) r := by
  unfold inv3 k1_t3_body
  simp only [k1_part1_eq_skeleton]; unfold k1_part1_skel
  iintro H
  sl_exec
  sl_step
  refine Entails.of_eq (congrArg (fun f => pT d L f) ?_)
  funext y
  rw [View.writes_cons, View.writes_nil, stT, off4_eq]
  show _ = if (y 0).val < 16 * (k.val + 1) then lanes t (y 0).val 15 else t y
  split
  · rename_i hy
    rw [if_pos (by omega)]
    refine (merge_val t k (laneAt ((y 0).val - 16 * k.val)) _ _ _ _ _ _ _ _ _ _ _ _ _ _ _ _).trans ?_
    rw [laneAt_val _ (by omega), Nat.add_sub_cancel' hy.1]
  · rename_i hy
    unfold merged
    by_cases h1 : (y 0).val < 16 * k.val
    · rw [if_pos h1, if_pos (by omega)]
    · rw [if_neg h1, if_neg (by omega)]

theorem chk2_of (ix : RowI) (hix : ∀ j, (ix j).toNat < 1008) (v : Vec F S16 .i32) (n : ℕ) (hv : ∀ x, v x = ix (rowAt (16 * n + (x 0).val))) : k1_chk2 L v := by
  have : ∀ (a : Fin 1) (x : S16.Idx), ((![v] : Fin 1 → IVec S16 32) a x).toNat < S16128.size a := fun a x => by
    obtain rfl : a = 0 := Subsingleton.elim _ _
    have hb := hix (rowAt (16 * n + (x 0).val))
    show (v x : BitVec 32).toNat < 16128
    rw [hv]; omega
  exact fun _ => this

theorem dedup_val (ix : RowI) (sm iv : RowF (F := F)) (hix : ∀ j, (ix j).toNat < 1008) (n : ℕ)
    (v14 : Vec F S16 .i32) (v17 v25 : Vec F S16 .f32) (t : Tab (F := F)) (h14 : ∀ x, v14 x = ix (rowAt (16 * n + (x 0).val)))
    (h17 : ∀ x, v17 x = sm (rowAt (16 * n + (x 0).val))) (h25 : ∀ x, v25 x = iv (rowAt (16 * n + (x 0).val)))
    (ht : t = merged (tab ix sm 320) 63) (h) (x : S16.Idx) :
    k1_pay2 v14 v17 (loadIdx (F := F) (s := S16128) (e := .f32) t ![v14] h) v25 x = dedup ix sm iv (rowAt (16 * n + (x 0).val)) := by
  subst ht
  have hb := hix (rowAt (16 * n + (x 0).val))
  have e : loadIdx (F := F) (s := S16128) (e := .f32) (merged (tab ix sm 320) 63) ![v14] h x = best ix sm (ix (rowAt (16 * n + (x 0).val))).toNat := by
    have hi : (idxAt (s := S16128) ![v14] h x 0).val = (ix (rowAt (16 * n + (x 0).val))).toNat := by
      show (v14 x : BitVec 32).toNat = _
      rw [h14]
    show merged (tab ix sm 320) 63 (idxAt (s := S16128) ![v14] h x) = _
    unfold merged best
    rw [hi, if_pos (by omega)]
  show Scalar.select (IntOp.andi (FloatOps.cmpf .oeq (v17 x) (loadIdx (F := F) (s := S16128) (e := .f32) (merged (tab ix sm 320) 63) ![v14] h x)) (IntOp.cmpi .slt (v14 x) 1000#32)) (v25 x) (Scalar.ofBits .f32 0x00000000#32) = _
  rw [e, h14, h17, h25]
  rfl

theorem trip4 (ix : RowI) (sm iv o : RowF (F := F)) (hix : ∀ j, (ix j).toNat < 1008) (k : Fin k1_t4_loop.trips) (a : PUnit) :
    inv4 (F := F) d L ix sm iv o k.val a ⊢ wp frame (wpE (defs₀ (F := F)) 𝒱₀ (thr d L) none) Set.univ
      (k1_t4_body L iW (Memref.isWhole_whole _) sW (Memref.isWhole_whole _) vW (Memref.isWhole_whole _) oW (Memref.isWhole_whole _)
        mI (Memref.isWhole_whole _) mS (Memref.isWhole_whole _) mV (Memref.isWhole_whole _) mO (Memref.isWhole_whole _) mT (Memref.isWhole_whole _)
        cc1_scoped0 cc1_scoped1 cc1_scoped2 cc1_scoped3 h k a) fun r => inv4 (F := F) d L ix sm iv o (k.val + 1) r := by
  unfold inv4 k1_t4_body
  have hk : k.val < 320 := k.isLt
  have e14 : ∀ x, mI.view.readAt (Elt F) (Rect.unit (s := S5120) (k1_off6 k) S16.size (k1_off6_inb L k h)).toLoadRect ix x = ix (rowAt (16 * k.val + (x 0).val)) :=
    fun x => by rw [ldI, off6_eq]
  have e17 : ∀ x, mS.view.readAt (Elt F) (Rect.unit (s := S5120) (k1_off6 k) S16.size (k1_off6_inb L k h)).toLoadRect sm x = sm (rowAt (16 * k.val + (x 0).val)) :=
    fun x => by rw [ldS, off6_eq]
  have e25 : ∀ x, mV.view.readAt (Elt F) (Rect.unit (s := S5120) (k1_off7 k) S16.size (k1_off7_inb L k h)).toLoadRect iv x = iv (rowAt (16 * k.val + (x 0).val)) :=
    fun x => by rw [ldV, off7_eq]
  iintro ⟨HI, HS, HV, HT, HO⟩
  sl_exec
  rw [wp_assume_of _ _ _ _ (chk2_of L ix hix _ k.val e14)]
  sl_exec
  iapply (SparseCore.wp_vectorLoadIdx 𝒱₀ (thr d L) none Set.univ (base := mT) (S := Finset.univ) (q := fullShare) (Finset.subset_univ _)) $$ HT
  iintro HT
  sl_exec
  sl_step
  isplitl [HI]; · iexact HI
  isplitl [HS]; · iexact HS
  isplitl [HV]; · iexact HV
  isplitl [HT]; · iexact HT
  iapply (Entails.of_eq (congrArg (fun f => pO d L f) ?_)) $$ HO
  funext y
  rw [View.writes_cons, View.writes_nil, stO, off7_eq]
  have hr : (mT.access (.whole S16128)).read (Elt F) (merged (tab ix sm 320) 63) = merged (tab ix sm 320) 63 := Memref.read_access_whole (Elt F) cc1_scratch4 _
  show _ = if (y 0).val < 16 * (k.val + 1) then dedup ix sm iv y else o y
  split
  · rename_i hy
    rw [if_pos (by omega)]
    refine (dedup_val ix sm iv hix k.val _ _ _ _ e14 e17 e25 hr _ _).trans ?_
    rw [laneAt_val _ (by omega), Nat.add_sub_cancel' hy.1, rowAt_eq y _ rfl]
  · rename_i hy
    unfold outs
    by_cases h1 : (y 0).val < 16 * k.val
    · rw [if_pos h1, if_pos (by omega)]
    · rw [if_neg h1, if_neg (by omega)]

/-! ## The body -/

/-- The row's indices, its floats, of an array of eight rows. -/
def rowOfI (f : S8x5120.Idx → BitVec 32) (w : ℕ) : RowI := fun j => f (cell w j)
def rowOfF (f : S8x5120.Idx → F .f32) (w : ℕ) : RowF (F := F) := fun j => f (cell w j)

/-- The array whose every row is that row's dedup. -/
def dedups (fi : S8x5120.Idx → BitVec 32) (fs fv : S8x5120.Idx → F .f32) : S8x5120.Idx → F .f32 := fun x =>
  dedup (rowOfI fi (x 0).val) (rowOfF fs (x 0).val) (rowOfF fv (x 0).val) (rowAt (x 1).val)

abbrev cell0 : GSem nD τ sig := (thr d L, .dma cc1_scoped0.sem)
abbrev cell1 : GSem nD τ sig := (thr d L, .dma cc1_scoped1.sem)
abbrev cell2 : GSem nD τ sig := (thr d L, .dma cc1_scoped2.sem)
abbrev cell3 : GSem nD τ sig := (thr d L, .dma cc1_scoped3.sem)

omit [FloatOps F] [Named F] in
theorem ownSems0_V :
    ∃ R : sProp 𝕄, (ownSems0 (thr d L) : sProp 𝕄)
      = iprop(semVal (cell0 d L) 0 ∗ semVal (cell1 d L) 0 ∗ semVal (cell2 d L) 0 ∗ semVal (cell3 d L) 0 ∗ R) := by
  apply Exists.intro
  unfold SparseCore.Cfg.ownSems0
  have m : ∀ s : DmaSem sig, (SemLoc.dma s : SemLoc sig).isScoped .scVector = true → ((thr d L, SemLoc.dma s) : GSem nD τ sig) ∈ ownCells (thr d L) :=
    fun s hs => mem_ownCells.mpr ⟨rfl, hs⟩
  have ne : ∀ s s' : DmaSem sig, s ≠ s' → ((thr d L, SemLoc.dma s) : GSem nD τ sig) ≠ (thr d L, SemLoc.dma s') :=
    fun s s' hs e => hs (by injection e with _ e; injection e)
  rw [SparseCore.bigSep_erase' (m cc1_scoped0.sem (by decide)),
    SparseCore.bigSep_erase' (Finset.mem_erase.mpr ⟨ne _ _ (by decide), m cc1_scoped1.sem (by decide)⟩),
    SparseCore.bigSep_erase' (Finset.mem_erase.mpr ⟨ne _ _ (by decide), Finset.mem_erase.mpr ⟨ne _ _ (by decide), m cc1_scoped2.sem (by decide)⟩⟩),
    SparseCore.bigSep_erase' (Finset.mem_erase.mpr ⟨ne _ _ (by decide), Finset.mem_erase.mpr ⟨ne _ _ (by decide), Finset.mem_erase.mpr ⟨ne _ _ (by decide), m cc1_scoped3.sem (by decide)⟩⟩⟩)]

omit [FloatOps F] [Named F] in
theorem ownBufs_V :
    ∃ R : sProp 𝕄, (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f) ∗ R) := by
  apply Exists.intro
  unfold SparseCore.Cfg.ownBufs
  have m : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) :=
    fun b hb => SparseCore.Cfg.mem_ownRefs_of_owner (p := Proc.scVector (cV L) (jV L)) (b := (Proc.scVector (cV L) (jV L)).devRef b) hb
  have ne : ∀ b b' : Ref sig .scVector, b ≠ b' → (Proc.scVector (cV L) (jV L)).devRef b ≠ (Proc.scVector (cV L) (jV L)).devRef b' :=
    fun b b' hb e => hb (Proc.devRef_injective _ e)
  refine (SparseCore.bigSep_erase' (m cc1_scratch0 rfl)).trans ?_
  rw [SparseCore.bigSep_erase' (Finset.mem_erase.mpr ⟨ne _ _ (by decide), m cc1_scratch1 rfl⟩),
    SparseCore.bigSep_erase' (Finset.mem_erase.mpr ⟨ne _ _ (by decide), Finset.mem_erase.mpr ⟨ne _ _ (by decide), m cc1_scratch2 rfl⟩⟩),
    SparseCore.bigSep_erase' (Finset.mem_erase.mpr ⟨ne _ _ (by decide), Finset.mem_erase.mpr ⟨ne _ _ (by decide), Finset.mem_erase.mpr ⟨ne _ _ (by decide), m cc1_scratch3 rfl⟩⟩⟩),
    SparseCore.bigSep_erase' (Finset.mem_erase.mpr ⟨ne _ _ (by decide), Finset.mem_erase.mpr ⟨ne _ _ (by decide), Finset.mem_erase.mpr ⟨ne _ _ (by decide), Finset.mem_erase.mpr ⟨ne _ _ (by decide), m cc1_scratch4 rfl⟩⟩⟩⟩)]

/-- What the call hands a subcore: its rows of the indices, scores, factors and output. -/
def goP (w : ℕ) (fi : S8x5120.Idx → BitVec 32) (fs fv : S8x5120.Idx → F .f32) : sProp 𝕄 :=
  iprop((iLoc d ↦[rowSet w]{fullShare} (fi : Buf (Elt F) (iLoc d))) ∗ (sLoc d ↦[rowSet w]{fullShare} (fs : Buf (Elt F) (sLoc d)))
    ∗ (vLoc d ↦[rowSet w]{fullShare} (fv : Buf (Elt F) (vLoc d))) ∗ ∃ f : Buf (Elt F) (oLoc d), oLoc d ↦[rowSet w]{fullShare} f)
/-- What it takes back: the same, the output's row at the row's dedup. -/
def tdP (w : ℕ) (fi : S8x5120.Idx → BitVec 32) (fs fv : S8x5120.Idx → F .f32) : sProp 𝕄 :=
  iprop((iLoc d ↦[rowSet w]{fullShare} (fi : Buf (Elt F) (iLoc d))) ∗ (sLoc d ↦[rowSet w]{fullShare} (fs : Buf (Elt F) (sLoc d)))
    ∗ (vLoc d ↦[rowSet w]{fullShare} (fv : Buf (Elt F) (vLoc d))) ∗ oLoc d ↦[rowSet w]{fullShare} (dedups fi fs fv : Buf (Elt F) (oLoc d)))

variable (h : k1_cond1 L = 1#1)

omit [FloatOps F] [Named F] in
theorem pts_iR (f : Buf (Elt F) (iLoc d)) :
    ((iR L h).view.loc (thr d L) ↦[(iR L h).view.set]{fullShare} f : sProp 𝕄) = iLoc d ↦[rowSet (wid L)]{fullShare} f := by
  rw [iR_set]
omit [FloatOps F] [Named F] in
theorem pts_sR (f : Buf (Elt F) (sLoc d)) :
    ((sR L h).view.loc (thr d L) ↦[(sR L h).view.set]{fullShare} f : sProp 𝕄) = sLoc d ↦[rowSet (wid L)]{fullShare} f := by
  rw [sR_set]
omit [FloatOps F] [Named F] in
theorem pts_vR (f : Buf (Elt F) (vLoc d)) :
    ((vR L h).view.loc (thr d L) ↦[(vR L h).view.set]{fullShare} f : sProp 𝕄) = vLoc d ↦[rowSet (wid L)]{fullShare} f := by
  rw [vR_set]
omit [FloatOps F] [Named F] in
theorem pts_oR (f : Buf (Elt F) (oLoc d)) :
    ((oR L h).view.loc (thr d L) ↦[(oR L h).view.set]{fullShare} f : sProp 𝕄) = oLoc d ↦[rowSet (wid L)]{fullShare} f := by
  rw [oR_set]

omit [FloatOps F] [Named F] in
/-- One store over a view's whole shape, read back at a place of the view. -/
theorem writes_whole_emb {sp : Space} {s : Shape} {e : EltTy} (v : View sig .scVector sp s e) (f : v.ty.Contents (Elt F)) (w : s.Idx → Elt F e) (j : s.Idx) :
    v.writes (Elt F) f [⟨Rect.whole s, w⟩] (v.emb j) = _root_.cast (congrArg (Elt F) v.elt_eq.symm) (w j) := by
  have e1 : (v.slice (Rect.whole s)).emb j = v.emb j := congrArg v.emb (Rect.emb_whole_apply s j)
  rw [View.writes_cons, View.writes_nil, ← e1]
  exact View.write_emb_of_mem _ _ (Finset.mem_univ j)

/-- The row written out is the array's row of dedups. -/
theorem out_row (fi : S8x5120.Idx → BitVec 32) (fs fv : S8x5120.Idx → F .f32) (fo : Buf (Elt F) (oLoc d)) :
    ((oR L h).view.loc (thr d L) ↦[(oR L h).view.set]{fullShare}
      ((oR L h).view.writes (Elt F) fo [⟨Rect.whole S5120, (dedup (rowOfI fi (wid L)) (rowOfF fs (wid L)) (rowOfF fv (wid L)) : RowF (F := F))⟩]) : sProp 𝕄)
      = oLoc d ↦[rowSet (wid L)]{fullShare} (dedups fi fs fv : Buf (Elt F) (oLoc d)) := by
  refine (pts_oR (F := F) d L h _).trans (pointsTo_congr fun x hx => ?_)
  rw [← oR_set L h] at hx
  obtain ⟨j, -, rfl⟩ := Finset.mem_map.1 hx
  have hw := (cond_iff L).mp h
  refine (writes_whole_emb (oR L h).view fo _ j).trans ?_
  rw [emb_oR]
  show _ = dedup (rowOfI fi (cell (wid L) j 0).val) (rowOfF fs (cell (wid L) j 0).val) (rowOfF fv (cell (wid L) j 0).val) (rowAt (cell (wid L) j 1).val)
  rw [show (cell (wid L) j 0).val = wid L from Nat.mod_eq_of_lt hw, show (cell (wid L) j 1).val = (j 0).val from rfl, rowAt_eq j _ rfl]
  rfl

include h in
/-- The active subcore's body. -/
theorem active (fi : S8x5120.Idx → BitVec 32) (fs fv : S8x5120.Idx → F .f32) (hfi : ∀ x, (fi x).toNat < 1008)
    (hF : (K (F := F)).Facts) (O : CellTallies nD τ sig (HIx 1)) (W : Waits sig (HIx 1)) (hO : ∀ g, O g none = 0) :
    iprop(levAts (K (F := F)).L (K (F := F)).lev ∗ goP d (wid L) fi fs fv ∗ scopedBufs (thr d L) ∗ scopedSems0 (thr d L) ∗ owes (thr d L) O W)
      ⊢ wp frame (wpE (defs₀ (F := F)) 𝒱₀ (thr d L) none) Set.univ
          (cc1__dedup_body L iW (Memref.isWhole_whole _) sW (Memref.isWhole_whole _) vW (Memref.isWhole_whole _) oW (Memref.isWhole_whole _)
            mI (Memref.isWhole_whole _) mS (Memref.isWhole_whole _) mV (Memref.isWhole_whole _) mO (Memref.isWhole_whole _) mT (Memref.isWhole_whole _)
            cc1_scoped0 cc1_scoped1 cc1_scoped2 cc1_scoped3)
          fun _ => iprop(tdP d (wid L) fi fs fv ∗ scopedBufs (thr d L) ∗ scopedSems0 (thr d L)
            ∗ ∃ W', ⌜∀ p ∈ W', p ∈ W ∨ p.2 = none⌝ ∗ owes (thr d L) O W') := by
  rw [cc1__dedup_body_eq_skeleton]; unfold cc1__dedup_body_skel
  rw [(K (F := F)).scopedBufs_V hF d (cV L) (jV L), SparseCore.Cfg.scopedSems0_V (Val := Elt F) d (cV L) (jV L)]
  obtain ⟨R1, h1⟩ := ownSems0_V (F := F) d L
  obtain ⟨R2, h2⟩ := ownBufs_V (F := F) d L
  rw [h1, h2]
  rw [k1_part2_eq_skeleton]; unfold k1_part2_skel goP
  iintro ⟨#Hlv, ⟨Hi, Hs, Hv, %fo, Ho⟩, ⟨⟨%f0, HI⟩, ⟨%f1, HS⟩, ⟨%f2, HV⟩, ⟨%f3, HO⟩, ⟨%f4, HT⟩, HR2⟩, ⟨Hc0, Hc1, Hc2, Hc3, HR1⟩, How⟩
  ihave Hmw := ((K (F := F)).mayWaits_none (thr := thr d L) hO) $$ Hlv
  ihave Hi := (Entails.of_eq (pts_iR (F := F) d L h _).symm) $$ Hi
  ihave Hs := (Entails.of_eq (pts_sR (F := F) d L h _).symm) $$ Hs
  ihave Hv := (Entails.of_eq (pts_vR (F := F) d L h _).symm) $$ Hv
  ihave Ho := (Entails.of_eq (pts_oR (F := F) d L h _).symm) $$ Ho
  ihave HI := (show _ ⊢ pI d L f0 from .rfl) $$ HI
  ihave HS := (show _ ⊢ pS d L f1 from .rfl) $$ HS
  ihave HV := (show _ ⊢ pV d L f2 from .rfl) $$ HV
  ihave HO := (show _ ⊢ pO d L f3 from .rfl) $$ HO
  ihave HT := (show _ ⊢ pT d L f4 from .rfl) $$ HT
  rw [dif_pos h]
  sl_exec
  have e0 : View.write (Elt F) mI.view f0 (active.sl.dma0 L h fi) Finset.univ = rowOfI fi (wid L) := by
    funext j
    refine (congrFun (View.write_whole_univ _ _ _) j).trans ?_
    exact congrArg fi (emb_iR L h j)
  have e1 : View.write (Elt F) mS.view f1 (active.sl.dma0_1 L h fs) Finset.univ = rowOfF fs (wid L) := by
    funext j
    refine (congrFun (View.write_whole_univ _ _ _) j).trans ?_
    exact congrArg fs (emb_sR L h j)
  have e2 : View.write (Elt F) mV.view f2 (active.sl.dma0_2 L h fv) Finset.univ = rowOfF fv (wid L) := by
    funext j
    refine (congrFun (View.write_whole_univ _ _ _) j).trans ?_
    exact congrArg fv (emb_vR L h j)
  rw [e0, e1, e2]
  ihave HI := (show _ ⊢ pI d L (rowOfI fi (wid L)) from .rfl) $$ HI
  ihave HS := (show _ ⊢ pS d L (rowOfF fs (wid L)) from .rfl) $$ HS
  ihave HV := (show _ ⊢ pV d L (rowOfF fv (wid L)) from .rfl) $$ HV
  have hix : ∀ j, (rowOfI fi (wid L) j).toNat < 1008 := fun j => hfi _
  rw [bind_assoc, bind_assoc]
  sl_for (inv1 (F := F) d L) $$ [HT]
  case region => exact trip1 (F := F) d L h
  · unfold inv1; iexists f4; isplitr
    · ipureintro; intro x hx; omega
    · iexact HT
  iintro %_ HT
  unfold inv1
  icases HT with ⟨%t1, %ht1, HT⟩
  have et : t1 = tab (rowOfI fi (wid L)) (rowOfF fs (wid L)) 0 := funext fun x => ht1 x (x 0).isLt
  rw [et]
  sl_for (inv2 (F := F) d L (rowOfI fi (wid L)) (rowOfF fs (wid L))) $$ [HI HS HT]
  case region => exact trip2 (F := F) d L h _ _ hix
  · unfold inv2; isplitl [HI]; · iexact HI
    isplitl [HS]; · iexact HS
    iexact HT
  iintro %_ H2
  unfold inv2
  icases H2 with ⟨HI, HS, HT⟩
  sl_exec
  rw [show Scf.trips k1_t2_loop.lb k1_t2_loop.ub k1_t2_loop.st = 320 from by decide]
  sl_for (inv3 (F := F) d L (tab (rowOfI fi (wid L)) (rowOfF fs (wid L)) 320)) $$ [HT]
  case region => exact trip3 (F := F) d L h _
  · unfold inv3
    iapply (Entails.of_eq (congrArg (fun f => pT d L f) (funext fun x => by unfold merged; rw [if_neg (by omega)]))) $$ HT
  iintro %_ HT
  unfold inv3
  rw [show Scf.trips k1_t3_loop.lb k1_t3_loop.ub k1_t3_loop.st = 63 from by decide]
  sl_for (inv4 (F := F) d L (rowOfI fi (wid L)) (rowOfF fs (wid L)) (rowOfF fv (wid L)) f3) $$ [HI HS HV HT HO]
  case region => exact trip4 (F := F) d L h _ _ _ _ hix
  · unfold inv4; isplitl [HI]; · iexact HI
    isplitl [HS]; · iexact HS
    isplitl [HV]; · iexact HV
    isplitl [HT]; · iexact HT
    iapply (Entails.of_eq (congrArg (fun f => pO d L f) (funext fun x => by unfold outs; rw [if_neg (by omega)]))) $$ HO
  iintro %_ H4
  unfold inv4
  icases H4 with ⟨HI, HS, HV, HT, HO⟩
  have eo : outs (rowOfI fi (wid L)) (rowOfF fs (wid L)) (rowOfF fv (wid L)) f3 k1_t4_loop.trips
      = dedup (rowOfI fi (wid L)) (rowOfF fs (wid L)) (rowOfF fv (wid L)) :=
    funext fun x => if_pos (by exact (x 0).isLt)
  rw [show Scf.trips k1_t4_loop.lb k1_t4_loop.ub k1_t4_loop.st = k1_t4_loop.trips from rfl, eo]
  sl_exec
  sl_step
  isplitl [Hi Hs Hv Ho]
  · unfold tdP
    isplitl [Hi]; · iapply (Entails.of_eq (pts_iR (F := F) d L h _)); iexact Hi
    isplitl [Hs]; · iapply (Entails.of_eq (pts_sR (F := F) d L h _)); iexact Hs
    isplitl [Hv]; · iapply (Entails.of_eq (pts_vR (F := F) d L h _)); iexact Hv
    iapply (Entails.of_eq (out_row (F := F) d L h fi fs fv fo))
    iexact Ho
  isplitl [HI HS HV HO HT HR2]
  · isplitl [HI]; · iexists _; iexact HI
    isplitl [HS]; · iexists _; iexact HS
    isplitl [HV]; · iexists _; iexact HV
    isplitl [HO]; · iexists _; iexact HO
    isplitl [HT]; · iexists _; iexact HT
    iexact HR2
  isplitl [Hc0 Hc1 Hc2 Hc3 HR1]
  · isplitl [Hc0]; · iexact Hc0
    isplitl [Hc1]; · iexact Hc1
    isplitl [Hc2]; · iexact Hc2
    isplitl [Hc3]; · iexact Hc3
    iexact HR1
  iexists _; isplitr [How]
  swap; · iexact How
  ipureintro; intro p hp
  simp only [Finset.mem_insert] at hp
  rcases hp with rfl | rfl | rfl | rfl | hp
  · exact .inr rfl
  · exact .inr rfl
  · exact .inr rfl
  · exact .inr rfl
  · exact .inl hp

omit [FloatOps F] [Named F] in
theorem rowSet_empty {w : ℕ} (hw : ¬ w < 8) : rowSet w = ∅ := by
  refine Finset.eq_empty_of_forall_notMem fun x hx => hw ?_
  have h0 : (x 0).val < 8 := (x 0).isLt
  have := (Finset.mem_filter.mp hx).2
  omega

/-- The body on any subcore. -/
theorem tile_body (fi : S8x5120.Idx → BitVec 32) (fs fv : S8x5120.Idx → F .f32) (hfi : ∀ x, (fi x).toNat < 1008)
    (hF : (K (F := F)).Facts) (O : CellTallies nD τ sig (HIx 1)) (W : Waits sig (HIx 1)) (hO : ∀ g, O g none = 0) :
    iprop(levAts (K (F := F)).L (K (F := F)).lev ∗ goP d (wid L) fi fs fv ∗ scopedBufs (thr d L) ∗ scopedSems0 (thr d L) ∗ owes (thr d L) O W)
      ⊢ wp frame (wpE (defs₀ (F := F)) 𝒱₀ (thr d L) none) Set.univ
          (cc1__dedup_body L iW (Memref.isWhole_whole _) sW (Memref.isWhole_whole _) vW (Memref.isWhole_whole _) oW (Memref.isWhole_whole _)
            mI (Memref.isWhole_whole _) mS (Memref.isWhole_whole _) mV (Memref.isWhole_whole _) mO (Memref.isWhole_whole _) mT (Memref.isWhole_whole _)
            cc1_scoped0 cc1_scoped1 cc1_scoped2 cc1_scoped3)
          fun _ => iprop(tdP d (wid L) fi fs fv ∗ scopedBufs (thr d L) ∗ scopedSems0 (thr d L)
            ∗ ∃ W', ⌜∀ p ∈ W', p ∈ W ∨ p.2 = none⌝ ∗ owes (thr d L) O W') := by
  by_cases h : k1_cond1 L = 1#1
  · exact active (F := F) d L h fi fs fv hfi hF O W hO
  have hw : ¬ wid L < 8 := fun hw => h ((cond_iff L).mpr hw)
  rw [cc1__dedup_body_eq_skeleton]; unfold cc1__dedup_body_skel goP tdP
  rw [dif_neg h, rowSet_empty hw]
  iintro ⟨-, ⟨Hi, Hs, Hv, %fo, Ho⟩, Hb, Hs0, How⟩
  sl_step
  isplitl [Hi Hs Hv Ho]
  · isplitl [Hi]; · iexact Hi
    isplitl [Hs]; · iexact Hs
    isplitl [Hv]; · iexact Hv
    iapply (Entails.of_eq (pointsTo_congr fun x hx => absurd hx (Finset.notMem_empty x)))
    iexact Ho
  isplitl [Hb]; · iexact Hb
  isplitl [Hs0]; · iexact Hs0
  iexists W; isplitr
  · ipureintro; exact fun p hp => .inl hp
  · iexact How

end Tile

end Cert.Proof.PI
-- ==== Proof.PIHost.lean ====
/-
  The host's operations between the calls, as three lists, and the contents of the TensorCore's buffers after each
  stretch and each call as functions of the contents at the launch.
-/
module

public import proofs.«01_k».proof.Proof.PISetUp
public import proofs.«01_k».proof.Proof.PIRegB
public import proofs.«01_k».proof.Proof.PIBound
public import proofs.«01_k».proof.Proof.PIBody

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

/-- The operations before the first region. -/
def opsA : List (HloOp τ sig (Elt F)) :=
  [(StableHlo.nullary main_c (constantI S_ 1 1#1)),
   (StableHlo.unary main_c main_v0 (broadcastInDim S8x1 ![] bcast_S_S8x1 : (⟨S_, .i1⟩ : BufTy).Contents (Elt F) → (⟨S8x1, .i1⟩ : BufTy).Contents (Elt F))),
   (StableHlo.binary main_arg1 main_v0 main_v1 ((fun a b => concatenate S8x1001 1 [⟨S8x1000, a⟩, ⟨S8x1, b⟩] concatenates_S8x1000_S8x1_S8x1001_d1) : (⟨S8x1000, .i1⟩ : BufTy).Contents (Elt F) → (⟨S8x1, .i1⟩ : BufTy).Contents (Elt F) → (⟨S8x1001, .i1⟩ : BufTy).Contents (Elt F))),
   (StableHlo.nullary main_cst (constant S_ .f32 0x00000000#32)),
   (StableHlo.nullary main_cst_0 (constant S_ .f32 0xFF800000#32)),
   (StableHlo.TRef.unary (.of main_cst_0 : StableHlo.TRef sig ⟨S_, .f32⟩) main_call0.v0 id),
   (StableHlo.TRef.unary (.of main_cst : StableHlo.TRef sig ⟨S_, .f32⟩) main_call0.v1 (broadcastInDim S8x1001 ![] bcast_S_S8x1001)),
   (StableHlo.TRef.unary main_call0.v0 main_call0.v2 (broadcastInDim S8x1001 ![] bcast_S_S8x1001)),
   (StableHlo.TRef.ternary (.of main_v1 : StableHlo.TRef sig ⟨S8x1001, .i1⟩) main_call0.v1 main_call0.v2 main_call0.v3 select),
   (StableHlo.unary main_v2 main_v3 (broadcastInDim S8x1x1001 ![0, 2] bcast_S8x1001_S8x1x1001_0_2 : (⟨S8x1001, .f32⟩ : BufTy).Contents (Elt F) → (⟨S8x1x1001, .f32⟩ : BufTy).Contents (Elt F)))]

/-- The operations between the first region and the SparseCore call. -/
def opsB : List (HloOp τ sig (Elt F)) :=
  [(StableHlo.reshape main_v4_0 main_v5 (rfl : (.i32 : EltTy) = .i32) shapeCasts_S40x1x1000_S8x5000),
   (StableHlo.nullary main_c_1 (constantI S_ 32 1000#32)),
   (StableHlo.TRef.unary (.of main_c_1 : StableHlo.TRef sig ⟨S_, .i32⟩) main_call1.v0 id),
   (StableHlo.TRef.binary (.of main_v5 : StableHlo.TRef sig ⟨S8x5000, .i32⟩) main_call1.v0 main_call1.v1 (fun x v => pad S8x5120 ![0, 0] ![0, 120] ![0, 0] x v pads_S8x5000_S8x5120_000_01200 h_S_)),
   (StableHlo.reshape main_v4_1 main_v7 (rfl : (.f32 : EltTy) = .f32) shapeCasts_S40x1x1000_S8x5000),
   (StableHlo.nullary main_cst_2 (constant S_ .f32 0xF149F2CA#32)),
   (StableHlo.TRef.unary (.of main_cst_2 : StableHlo.TRef sig ⟨S_, .f32⟩) main_call2.v0 id),
   (StableHlo.TRef.binary (.of main_v7 : StableHlo.TRef sig ⟨S8x5000, .f32⟩) main_call2.v0 main_call2.v1 (fun x v => pad S8x5120 ![0, 0] ![0, 120] ![0, 0] x v pads_S8x5000_S8x5120_000_01200 h_S_)),
   (StableHlo.reshape main_v4_3 main_v9 (rfl : (.f32 : EltTy) = .f32) shapeCasts_S40x1x1000_S8x5000),
   (StableHlo.nullary main_c_3 (constantI S_ 32 0#32)),
   (StableHlo.TRef.unary (.of main_c_3 : StableHlo.TRef sig ⟨S_, .i32⟩) main_call3.v0 (sitofp .f32)),
   (StableHlo.TRef.binary (.of main_v9 : StableHlo.TRef sig ⟨S8x5000, .f32⟩) main_call3.v0 main_call3.v1 (fun x v => pad S8x5120 ![0, 0] ![0, 120] ![0, 0] x v pads_S8x5000_S8x5120_000_01200 h_S_))]

/-- The operations between the SparseCore call and the second region. -/
def opsC : List (HloOp τ sig (Elt F)) :=
  [(StableHlo.unary main_v11 main_v12 ((extractStridedSlice S8x5000 ![0, 0] · slices_S8x5120_S8x5000_0_0) : (⟨S8x5120, .f32⟩ : BufTy).Contents (Elt F) → (⟨S8x5000, .f32⟩ : BufTy).Contents (Elt F))),
   (StableHlo.reshape main_v12 main_v13 (rfl : (.f32 : EltTy) = .f32) shapeCasts_S8x5000_S40x1x1000)]

/-- The program: its three stretches around its three calls. -/
theorem main_eq (d : Dev nD) : main (F := F) d = (StableHlo.seq opsA >>= fun _ =>
    (Prog.lift (.customCall (SparseCore.inner (Pipeline.entry 0)) ()) : Prog (TpuEff nD τ sig (Elt F) (SparseCore.Sig (ΛP (F := F)) 1) .tc) PUnit) >>= fun _ =>
    StableHlo.seq opsB >>= fun _ => sc.run d 0 >>= fun _ => StableHlo.seq opsC >>= fun _ =>
    (Prog.lift (.customCall (SparseCore.inner (Pipeline.entry 1)) ()) : Prog (TpuEff nD τ sig (Elt F) (SparseCore.Sig (ΛP (F := F)) 1) .tc) PUnit) >>= fun _ => pure ⟨⟩) := by
  simp only [main, fn_where.body, fn_pad.body, fn_pad_0.body, fn_pad_1.body, opsA, opsB, opsC, StableHlo.seq, bind_assoc, pure_bind]

abbrev dr (b : Ref sig .tc) : DevRef τ sig := Proc.devRef .tc b

omit [FloatOps F] [Named F] in
theorem mem_uc (r : Ref sig .tc) (h : r.isScoped = false) : dr r ∈ ucRefs :=
  Finset.mem_filter.mpr ⟨StableHlo.devRef_mem_tcRefs r, by rw [show (dr r).isScoped = r.isScoped from rfl, h]; exact Bool.false_ne_true⟩
theorem sub1 {y : Ref sig .tc} (hy : y.isScoped = false) : ({dr y} : Finset (DevRef τ sig)) ⊆ ucRefs :=
  Finset.singleton_subset_iff.mpr (mem_uc y hy)
theorem sub2 {x y : Ref sig .tc} (hx : x.isScoped = false) (hy : y.isScoped = false) : ({dr x, dr y} : Finset (DevRef τ sig)) ⊆ ucRefs :=
  Finset.insert_subset (mem_uc x hx) (sub1 hy)
theorem sub3 {x y z : Ref sig .tc} (hx : x.isScoped = false) (hy : y.isScoped = false) (hz : z.isScoped = false) :
    ({dr x, dr y, dr z} : Finset (DevRef τ sig)) ⊆ ucRefs := Finset.insert_subset (mem_uc x hx) (sub2 hy hz)
theorem sub4 {x y z w : Ref sig .tc} (hx : x.isScoped = false) (hy : y.isScoped = false) (hz : z.isScoped = false) (hw : w.isScoped = false) :
    ({dr x, dr y, dr z, dr w} : Finset (DevRef τ sig)) ⊆ ucRefs := Finset.insert_subset (mem_uc x hx) (sub3 hy hz hw)

theorem subA : (opsA (F := F)).Forall fun op => op.bufs ⊆ ucRefs := ⟨sub1 rfl, sub2 rfl rfl, sub3 rfl rfl rfl, sub1 rfl, sub1 rfl, sub2 rfl rfl, sub2 rfl rfl, sub2 rfl rfl, sub4 rfl rfl rfl rfl, sub2 rfl rfl⟩
theorem freshA : (opsA (F := F)).Forall fun op => op.fresh = ∅ := StableHlo.forall_fresh_of_map rfl
theorem subB : (opsB (F := F)).Forall fun op => op.bufs ⊆ ucRefs := ⟨sub2 rfl rfl, sub1 rfl, sub2 rfl rfl, sub3 rfl rfl rfl, sub2 rfl rfl, sub1 rfl, sub2 rfl rfl, sub3 rfl rfl rfl, sub2 rfl rfl, sub1 rfl, sub2 rfl rfl, sub3 rfl rfl rfl⟩
theorem freshB : (opsB (F := F)).Forall fun op => op.fresh = ∅ := StableHlo.forall_fresh_of_map rfl
theorem subC : (opsC (F := F)).Forall fun op => op.bufs ⊆ ucRefs := ⟨sub2 rfl rfl, sub2 rfl rfl⟩
theorem freshC : (opsC (F := F)).Forall fun op => op.fresh = ∅ := StableHlo.forall_fresh_of_map rfl

variable (V : Valuation τ sig (Elt F))

/-- After the first stretch; after the first region; after the second stretch; after the SparseCore call; after the third
    stretch; after the second region. -/
def V1 : Valuation τ sig (Elt F) := StableHlo.after opsA V
def V2 : Valuation τ sig (Elt F) :=
  Function.update (Function.update (Function.update (Function.update (V1 V)
    (dr main_v4_0) (gIdx (V1 V (dr main_arg0)) (V1 V (dr main_v3)) : S40x1x1000.Idx → Elt F .i32))
    (dr main_v4_1) (gSm (V1 V (dr main_arg0)) (V1 V (dr main_v3)) : S40x1x1000.Idx → Elt F .f32))
    (dr main_v4_2) (gMax (V1 V (dr main_arg0)) (V1 V (dr main_v3)) : S40x1x1000.Idx → Elt F .f32))
    (dr main_v4_3) (gInv (V1 V (dr main_arg0)) (V1 V (dr main_v3)) : S40x1x1000.Idx → Elt F .f32)
def V3 : Valuation τ sig (Elt F) := StableHlo.after opsB (V2 V)
def V4 : Valuation τ sig (Elt F) :=
  Function.update (V3 V) (dr main_v11) (dedups (V3 V (dr main_v6)) (V3 V (dr main_v8)) (V3 V (dr main_v10)) : S8x5120.Idx → Elt F .f32)
def V5 : Valuation τ sig (Elt F) := StableHlo.after opsC (V4 V)
def V6 : Valuation τ sig (Elt F) :=
  Function.update (V5 V) (dr main_v14) (gOut (V5 V (dr main_arg0)) (V5 V (dr main_v3)) (V5 V (dr main_v4_2)) (V5 V (dr main_v13)) : S8x5000x1000.Idx → Elt F .f32)

end Cert.Proof.PI
-- ==== Proof.PIVal.lean ====
/-
  The contents after the stretches, read: what the calls' operands are, as functions of the two arguments.
-/
module

public import proofs.«01_k».proof.Proof.PISetUp
public import proofs.«01_k».proof.Proof.PIHost

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

open StableHlo

variable (V : Valuation τ sig (Elt F))

/-- The mask as the kernel gets it: zero where a class is allowed (and at the no-object class), minus infinity elsewhere. -/
def maskOf (b : IVec S8x1000 1) : FVec F S8x1x1001 .f32 :=
  broadcastInDim S8x1x1001 ![0, 2] bcast_S8x1001_S8x1x1001_0_2
    (select (concatenate S8x1001 1 [⟨S8x1000, b⟩, ⟨S8x1, broadcastInDim S8x1 ![] bcast_S_S8x1 (constantI S_ 1 1#1)⟩] concatenates_S8x1000_S8x1_S8x1001_d1)
      (broadcastInDim S8x1001 ![] bcast_S_S8x1001 (constant S_ .f32 0x00000000#32 : FVec F S_ .f32))
      (broadcastInDim S8x1001 ![] bcast_S_S8x1001 (constant S_ .f32 0xFF800000#32 : FVec F S_ .f32)))

/-- A result array of the first region as the SparseCore call gets it: its rows of queries, filled up. -/
def padI (x : IVec S40x1x1000 32) : IVec S8x5120 32 :=
  pad S8x5120 ![0, 0] ![0, 120] ![0, 0] (shapeCast S8x5000 x shapeCasts_S40x1x1000_S8x5000) (constantI S_ 32 1000#32) pads_S8x5000_S8x5120_000_01200 h_S_
def padS (x : FVec F S40x1x1000 .f32) : FVec F S8x5120 .f32 :=
  pad S8x5120 ![0, 0] ![0, 120] ![0, 0] (shapeCast S8x5000 x shapeCasts_S40x1x1000_S8x5000) (constant S_ .f32 0xF149F2CA#32) pads_S8x5000_S8x5120_000_01200 h_S_
def padV (x : FVec F S40x1x1000 .f32) : FVec F S8x5120 .f32 :=
  pad S8x5120 ![0, 0] ![0, 120] ![0, 0] (shapeCast S8x5000 x shapeCasts_S40x1x1000_S8x5000) (sitofp .f32 (constantI S_ 32 0#32)) pads_S8x5000_S8x5120_000_01200 h_S_
/-- Its result as the second region gets it. -/
def cutO (x : FVec F S8x5120 .f32) : FVec F S40x1x1000 .f32 :=
  shapeCast S40x1x1000 (extractStridedSlice S8x5000 ![0, 0] x slices_S8x5120_S8x5000_0_0) shapeCasts_S8x5000_S40x1x1000

theorem V1_arg0 : V1 V (dr main_arg0) = V (dr main_arg0) := by
  unfold V1 opsA; after_results_simp
theorem V1_arg1 : V1 V (dr main_arg1) = V (dr main_arg1) := by
  unfold V1 opsA; after_results_simp
theorem V1_v3 : V1 V (dr main_v3) = (maskOf (F := F) (V (dr main_arg1)) : S8x1x1001.Idx → Elt F .f32) := by
  unfold V1 opsA; after_results_simp; rfl

theorem afterB_v6 (W : Valuation τ sig (Elt F)) : after opsB W (dr main_v6) = (padI (W (dr main_v4_0)) : S8x5120.Idx → Elt F .i32) := by
  unfold opsB; after_results_simp; rfl
theorem afterB_v8 (W : Valuation τ sig (Elt F)) : after opsB W (dr main_v8) = (padS (W (dr main_v4_1)) : S8x5120.Idx → Elt F .f32) := by
  unfold opsB; after_results_simp; rfl
theorem afterB_v10 (W : Valuation τ sig (Elt F)) : after opsB W (dr main_v10) = (padV (W (dr main_v4_3)) : S8x5120.Idx → Elt F .f32) := by
  unfold opsB; after_results_simp; rfl
theorem afterB_arg0 (W : Valuation τ sig (Elt F)) : after opsB W (dr main_arg0) = W (dr main_arg0) := by
  unfold opsB; after_results_simp
theorem afterB_arg1 (W : Valuation τ sig (Elt F)) : after opsB W (dr main_arg1) = W (dr main_arg1) := by
  unfold opsB; after_results_simp
theorem afterB_v3 (W : Valuation τ sig (Elt F)) : after opsB W (dr main_v3) = W (dr main_v3) := by
  unfold opsB; after_results_simp
theorem afterB_v4_2 (W : Valuation τ sig (Elt F)) : after opsB W (dr main_v4_2) = W (dr main_v4_2) := by
  unfold opsB; after_results_simp
theorem afterC_v13 (W : Valuation τ sig (Elt F)) : after opsC W (dr main_v13) = (cutO (W (dr main_v11)) : S40x1x1000.Idx → Elt F .f32) := by
  unfold opsC; after_results_simp; rfl
theorem afterC_arg0 (W : Valuation τ sig (Elt F)) : after opsC W (dr main_arg0) = W (dr main_arg0) := by
  unfold opsC; after_results_simp
theorem afterC_arg1 (W : Valuation τ sig (Elt F)) : after opsC W (dr main_arg1) = W (dr main_arg1) := by
  unfold opsC; after_results_simp
theorem afterC_v3 (W : Valuation τ sig (Elt F)) : after opsC W (dr main_v3) = W (dr main_v3) := by
  unfold opsC; after_results_simp
theorem afterC_v4_2 (W : Valuation τ sig (Elt F)) : after opsC W (dr main_v4_2) = W (dr main_v4_2) := by
  unfold opsC; after_results_simp

theorem dr_ne {x y : Ref sig .tc} (h : x ≠ y) : dr x ≠ dr y := StableHlo.devRef_ne_of_ne h

theorem V2_of_ne {r : Ref sig .tc} (h0 : r ≠ main_v4_0) (h1 : r ≠ main_v4_1) (h2 : r ≠ main_v4_2) (h3 : r ≠ main_v4_3) : V2 V (dr r) = V1 V (dr r) := by
  unfold V2
  rw [Function.update_of_ne (dr_ne h3), Function.update_of_ne (dr_ne h2), Function.update_of_ne (dr_ne h1), Function.update_of_ne (dr_ne h0)]
theorem V2_v4_0 : V2 V (dr main_v4_0) = (gIdx (V1 V (dr main_arg0)) (V1 V (dr main_v3)) : S40x1x1000.Idx → Elt F .i32) := by
  unfold V2
  rw [Function.update_of_ne (dr_ne (by decide)), Function.update_of_ne (dr_ne (by decide)), Function.update_of_ne (dr_ne (by decide)), Function.update_self]
theorem V2_v4_1 : V2 V (dr main_v4_1) = (gSm (V1 V (dr main_arg0)) (V1 V (dr main_v3)) : S40x1x1000.Idx → Elt F .f32) := by
  unfold V2
  rw [Function.update_of_ne (dr_ne (by decide)), Function.update_of_ne (dr_ne (by decide)), Function.update_self]
theorem V2_v4_2 : V2 V (dr main_v4_2) = (gMax (V1 V (dr main_arg0)) (V1 V (dr main_v3)) : S40x1x1000.Idx → Elt F .f32) := by
  unfold V2
  rw [Function.update_of_ne (dr_ne (by decide)), Function.update_self]
theorem V2_v4_3 : V2 V (dr main_v4_3) = (gInv (V1 V (dr main_arg0)) (V1 V (dr main_v3)) : S40x1x1000.Idx → Elt F .f32) := by
  unfold V2
  rw [Function.update_self]
theorem V4_of_ne {r : Ref sig .tc} (h : r ≠ main_v11) : V4 V (dr r) = V3 V (dr r) := by
  unfold V4; rw [Function.update_of_ne (dr_ne h)]
theorem V6_of_ne {r : Ref sig .tc} (h : r ≠ main_v14) : V6 V (dr r) = V5 V (dr r) := by
  unfold V6; rw [Function.update_of_ne (dr_ne h)]

/-! ## The operands as functions of the arguments -/

variable (a : FVec F S8x5000x1001 .f32) (b : IVec S8x1000 1)

/-- The SparseCore call's operands; its result; the program's. -/
def fIdx : IVec S8x5120 32 := padI (gIdx a (maskOf (F := F) b))
def fSm : FVec F S8x5120 .f32 := padS (gSm a (maskOf (F := F) b))
def fInv : FVec F S8x5120 .f32 := padV (gInv a (maskOf (F := F) b))
def fOut : FVec F S8x5000x1000 .f32 :=
  gOut a (maskOf (F := F) b) (gMax a (maskOf (F := F) b)) (cutO (dedups (fIdx a b) (fSm a b) (fInv a b)))

theorem V3_v6 : V3 V (dr main_v6) = (fIdx (F := F) (V (dr main_arg0)) (V (dr main_arg1)) : S8x5120.Idx → Elt F .i32) := by
  unfold V3; rw [afterB_v6, V2_v4_0, V1_arg0, V1_v3]; rfl
theorem V3_v8 : V3 V (dr main_v8) = (fSm (F := F) (V (dr main_arg0)) (V (dr main_arg1)) : S8x5120.Idx → Elt F .f32) := by
  unfold V3; rw [afterB_v8, V2_v4_1, V1_arg0, V1_v3]; rfl
theorem V3_v10 : V3 V (dr main_v10) = (fInv (F := F) (V (dr main_arg0)) (V (dr main_arg1)) : S8x5120.Idx → Elt F .f32) := by
  unfold V3; rw [afterB_v10, V2_v4_3, V1_arg0, V1_v3]; rfl
theorem V5_arg0 : V5 V (dr main_arg0) = V (dr main_arg0) := by
  unfold V5; rw [afterC_arg0, V4_of_ne V (by decide)]; unfold V3
  rw [afterB_arg0, V2_of_ne V (by decide) (by decide) (by decide) (by decide), V1_arg0]
theorem V5_arg1 : V5 V (dr main_arg1) = V (dr main_arg1) := by
  unfold V5; rw [afterC_arg1, V4_of_ne V (by decide)]; unfold V3
  rw [afterB_arg1, V2_of_ne V (by decide) (by decide) (by decide) (by decide), V1_arg1]
theorem V5_v3 : V5 V (dr main_v3) = (maskOf (F := F) (V (dr main_arg1)) : S8x1x1001.Idx → Elt F .f32) := by
  unfold V5; rw [afterC_v3, V4_of_ne V (by decide)]; unfold V3
  rw [afterB_v3, V2_of_ne V (by decide) (by decide) (by decide) (by decide), V1_v3]
theorem V5_v4_2 : V5 V (dr main_v4_2) = (gMax (V (dr main_arg0)) (maskOf (F := F) (V (dr main_arg1))) : S40x1x1000.Idx → Elt F .f32) := by
  unfold V5; rw [afterC_v4_2, V4_of_ne V (by decide)]; unfold V3
  rw [afterB_v4_2, V2_v4_2, V1_arg0, V1_v3]
theorem V5_v13 : V5 V (dr main_v13) = (cutO (dedups (fIdx (F := F) (V (dr main_arg0)) (V (dr main_arg1))) (fSm (V (dr main_arg0)) (V (dr main_arg1))) (fInv (V (dr main_arg0)) (V (dr main_arg1)))) : S40x1x1000.Idx → Elt F .f32) := by
  unfold V5; rw [afterC_v13]; unfold V4; rw [Function.update_self, V3_v6, V3_v8, V3_v10]
theorem V6_v14 : V6 V (dr main_v14) = (fOut (F := F) (V (dr main_arg0)) (V (dr main_arg1)) : S8x5000x1000.Idx → Elt F .f32) := by
  unfold V6; rw [Function.update_self, V5_arg0, V5_v3, V5_v4_2, V5_v13]; rfl
theorem V6_arg0 : V6 V (dr main_arg0) = V (dr main_arg0) := by rw [V6_of_ne V (by decide), V5_arg0]
theorem V6_arg1 : V6 V (dr main_arg1) = V (dr main_arg1) := by rw [V6_of_ne V (by decide), V5_arg1]

/-- Every index the SparseCore call gets lies in a table's stretch. -/
theorem fIdx_lt (x : S8x5120.Idx) : (fIdx (F := F) a b x).toNat < 1008 := by
  unfold fIdx padI pad
  dsimp only
  split
  · unfold shapeCast
    exact lt_of_le_of_lt (gIdx_le _ _ _) (by decide)
  · show (1000#32 : BitVec 32).toNat < 1008
    decide

end Cert.Proof.PI
-- ==== Proof.PIPay.lean ====
/-
  What the SparseCore call hands its tasks and takes back: task `(c, i)` the row `2 i + c` of the three operands and of
  the result, nothing when there is no such row. The rows of all tasks make up the arrays.
-/
module

public import proofs.«01_k».proof.Proof.PISetUp
public import proofs.«01_k».proof.Proof.PIVal

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

omit [FloatOps F] [Named F] in
theorem mem_rowSet {w : ℕ} {x : S8x5120.Idx} : x ∈ rowSet w ↔ (x 0).val = w := by
  unfold rowSet; rw [Finset.mem_filter]; exact ⟨fun h => h.2, fun h => ⟨Finset.mem_univ _, h⟩⟩
theorem rows_disjoint (c : Fin 2) : ∀ i ∈ (Finset.univ : Finset (Fin 16)), ∀ j ∈ (Finset.univ : Finset (Fin 16)), i ≠ j →
    Disjoint (rowSet (2 * i.val + c.val)) (rowSet (2 * j.val + c.val)) := by
  intro i _ j _ hij
  refine Finset.disjoint_left.mpr fun x hx hx' => hij (Fin.ext ?_)
  have h1 := mem_rowSet.mp hx
  have h2 := mem_rowSet.mp hx'
  omega
theorem cores_disjoint : ∀ c ∈ (Finset.univ : Finset (Fin 2)), ∀ c' ∈ (Finset.univ : Finset (Fin 2)), c ≠ c' →
    Disjoint (Finset.univ.biUnion fun i : Fin 16 => rowSet (2 * i.val + c.val)) (Finset.univ.biUnion fun i : Fin 16 => rowSet (2 * i.val + c'.val)) := by
  intro c _ c' _ hc
  refine Finset.disjoint_left.mpr fun x hx hx' => hc (Fin.ext ?_)
  obtain ⟨i, -, hi⟩ := Finset.mem_biUnion.mp hx
  obtain ⟨j, -, hj⟩ := Finset.mem_biUnion.mp hx'
  have h1 := mem_rowSet.mp hi
  have h2 := mem_rowSet.mp hj
  have := c.isLt; have := c'.isLt
  omega
theorem rows_cover : (Finset.univ.biUnion fun c : Fin 2 => Finset.univ.biUnion fun i : Fin 16 => rowSet (2 * i.val + c.val)) = Finset.univ := by
  refine Finset.eq_univ_of_forall fun x => ?_
  have h : (x 0).val < 8 := (x 0).isLt
  refine Finset.mem_biUnion.mpr ⟨⟨(x 0).val % 2, by omega⟩, Finset.mem_univ _, Finset.mem_biUnion.mpr ⟨⟨(x 0).val / 2, by omega⟩, Finset.mem_univ _, mem_rowSet.mpr ?_⟩⟩
  show (x 0).val = 2 * ((x 0).val / 2) + (x 0).val % 2
  omega

omit [FloatOps F] [Named F] in
theorem i_rows (d : Dev nD) (f : Buf (Elt F) (iLoc d)) :
    (bigSep Finset.univ fun c : Fin 2 => bigSep Finset.univ fun i : Fin 16 => (iLoc d ↦[rowSet (2 * i.val + c.val)]{fullShare} f : sProp 𝕄)) = (iLoc d ↦{fullShare} f) := by
  rw [bigSep_congr fun c _ => (pointsTo_biUnion Finset.univ (ℓ := iLoc d) (fun i : Fin 16 => rowSet (2 * i.val + c.val)) (rows_disjoint c)).symm,
    ← pointsTo_biUnion Finset.univ (ℓ := iLoc d) (fun c : Fin 2 => Finset.univ.biUnion fun i : Fin 16 => rowSet (2 * i.val + c.val)) cores_disjoint, rows_cover]
  try rfl

omit [FloatOps F] [Named F] in
theorem s_rows (d : Dev nD) (f : Buf (Elt F) (sLoc d)) :
    (bigSep Finset.univ fun c : Fin 2 => bigSep Finset.univ fun i : Fin 16 => (sLoc d ↦[rowSet (2 * i.val + c.val)]{fullShare} f : sProp 𝕄)) = (sLoc d ↦{fullShare} f) := by
  rw [bigSep_congr fun c _ => (pointsTo_biUnion Finset.univ (ℓ := sLoc d) (fun i : Fin 16 => rowSet (2 * i.val + c.val)) (rows_disjoint c)).symm,
    ← pointsTo_biUnion Finset.univ (ℓ := sLoc d) (fun c : Fin 2 => Finset.univ.biUnion fun i : Fin 16 => rowSet (2 * i.val + c.val)) cores_disjoint, rows_cover]
  try rfl

omit [FloatOps F] [Named F] in
theorem v_rows (d : Dev nD) (f : Buf (Elt F) (vLoc d)) :
    (bigSep Finset.univ fun c : Fin 2 => bigSep Finset.univ fun i : Fin 16 => (vLoc d ↦[rowSet (2 * i.val + c.val)]{fullShare} f : sProp 𝕄)) = (vLoc d ↦{fullShare} f) := by
  rw [bigSep_congr fun c _ => (pointsTo_biUnion Finset.univ (ℓ := vLoc d) (fun i : Fin 16 => rowSet (2 * i.val + c.val)) (rows_disjoint c)).symm,
    ← pointsTo_biUnion Finset.univ (ℓ := vLoc d) (fun c : Fin 2 => Finset.univ.biUnion fun i : Fin 16 => rowSet (2 * i.val + c.val)) cores_disjoint, rows_cover]
  try rfl

omit [FloatOps F] [Named F] in
theorem o_rows (d : Dev nD) (f : Buf (Elt F) (oLoc d)) :
    (bigSep Finset.univ fun c : Fin 2 => bigSep Finset.univ fun i : Fin 16 => (oLoc d ↦[rowSet (2 * i.val + c.val)]{fullShare} f : sProp 𝕄)) = (oLoc d ↦{fullShare} f) := by
  rw [bigSep_congr fun c _ => (pointsTo_biUnion Finset.univ (ℓ := oLoc d) (fun i : Fin 16 => rowSet (2 * i.val + c.val)) (rows_disjoint c)).symm,
    ← pointsTo_biUnion Finset.univ (ℓ := oLoc d) (fun c : Fin 2 => Finset.univ.biUnion fun i : Fin 16 => rowSet (2 * i.val + c.val)) cores_disjoint, rows_cover]
  try rfl

/-! ## The payloads -/

variable (fi : Dev nD → S8x5120.Idx → BitVec 32) (fs fv : Dev nD → S8x5120.Idx → F .f32)

instance goP_storable (d : Dev nD) (w : ℕ) (gi : S8x5120.Idx → BitVec 32) (gs gv : S8x5120.Idx → F .f32) :
    BI.Storable (upEmb : UEmb _ 𝕄) (goP d w gi gs gv) := by unfold goP; infer_instance
instance tdP_storable (d : Dev nD) (w : ℕ) (gi : S8x5120.Idx → BitVec 32) (gs gv : S8x5120.Idx → F .f32) :
    BI.Storable (upEmb : UEmb _ 𝕄) (tdP d w gi gs gv) := by unfold tdP; infer_instance

/-- A SparseCore's share, handed over; handed back. -/
def stP (d : Dev nD) (c : ℕ) : sProp 𝕄 := bigSep Finset.univ fun i : Fin 16 => goP d (2 * i.val + c) (fi d) (fs d) (fv d)
def dnP (d : Dev nD) (c : ℕ) : sProp 𝕄 := bigSep Finset.univ fun i : Fin 16 => tdP d (2 * i.val + c) (fi d) (fs d) (fv d)
instance stP_storable (d : Dev nD) (c : ℕ) : BI.Storable (upEmb : UEmb _ 𝕄) (stP fi fs fv d c) := by unfold stP; infer_instance
instance dnP_storable (d : Dev nD) (c : ℕ) : BI.Storable (upEmb : UEmb _ 𝕄) (dnP fi fs fv d c) := by unfold dnP; infer_instance

def P : (K (F := F)).Pay (nD := nD) (Val := Elt F) (Name := ℕ) (U := UU) where
  st _ d c := stP fi fs fv d c.val
  dn _ d c := dnP fi fs fv d c.val
  go _ d c i := goP d (2 * i.val + c.val) (fi d) (fs d) (fv d)
  td _ d c i := tdP d (2 * i.val + c.val) (fi d) (fs d) (fv d)
  x _ _ := iprop(emp)

instance P_storable : (P fi fs fv).IsStorable where
  st _ d c := by unfold P; infer_instance
  dn _ d c := by unfold P; infer_instance
  go _ d c i := by unfold P; infer_instance
  td _ d c i := by unfold P; infer_instance

theorem vecSplit : (K (F := F)).VecSplit' (P fi fs fv) 0 := by
  intro d c
  show stP fi fs fv d c.val ⊢ |={Set.univ}=> iprop((bigSep Finset.univ fun i : Fin 16 => goP d (2 * i.val + c.val) (fi d) (fs d) (fv d))
    ∗ ((bigSep Finset.univ fun i : Fin 16 => tdP d (2 * i.val + c.val) (fi d) (fs d) (fv d)) -∗ dnP fi fs fv d c.val))
  unfold stP dnP
  iintro H; imodintro
  isplitl [H]; · iexact H
  iintro H; iexact H

theorem go_intro (d : Dev nD) (w : ℕ) (gi : S8x5120.Idx → BitVec 32) (gs gv : S8x5120.Idx → F .f32) (fo : Buf (Elt F) (oLoc d)) :
    (iprop((iLoc d ↦[rowSet w]{fullShare} (gi : Buf (Elt F) (iLoc d))) ∗ (sLoc d ↦[rowSet w]{fullShare} (gs : Buf (Elt F) (sLoc d)))
      ∗ (vLoc d ↦[rowSet w]{fullShare} (gv : Buf (Elt F) (vLoc d))) ∗ oLoc d ↦[rowSet w]{fullShare} fo) : sProp 𝕄) ⊢ goP d w gi gs gv := by
  unfold goP
  iintro ⟨Hi, Hs, Hv, Ho⟩
  isplitl [Hi]; · iexact Hi
  isplitl [Hs]; · iexact Hs
  isplitl [Hv]; · iexact Hv
  iexists fo; iexact Ho

/-- The arrays make up the SparseCores' shares, -/
theorem st_intro (d : Dev nD) (fo : Buf (Elt F) (oLoc d)) :
    iprop((iLoc d ↦{fullShare} (fi d : Buf (Elt F) (iLoc d))) ∗ (sLoc d ↦{fullShare} (fs d : Buf (Elt F) (sLoc d)))
        ∗ (vLoc d ↦{fullShare} (fv d : Buf (Elt F) (vLoc d))) ∗ oLoc d ↦{fullShare} fo)
      ⊢ (bigSep Finset.univ fun c : Fin ((K (F := F)).nCore 0) => (P fi fs fv).st 0 d c : sProp 𝕄) := by
  show _ ⊢ bigSep (Finset.univ : Finset (Fin 2)) fun c => stP fi fs fv d c.val
  rw [← i_rows, ← s_rows, ← v_rows, ← o_rows, ← bigSep_sep', ← bigSep_sep', ← bigSep_sep']
  refine bigSep_mono fun c _ => ?_
  rw [← bigSep_sep', ← bigSep_sep', ← bigSep_sep']
  unfold stP
  refine bigSep_mono fun i _ => ?_
  exact go_intro d _ (fi d) (fs d) (fv d) fo
/-- and back, the result at every row's dedup. -/
theorem dn_elim (d : Dev nD) :
    (bigSep Finset.univ fun c : Fin ((K (F := F)).nCore 0) => (P fi fs fv).dn 0 d c : sProp 𝕄)
      ⊢ iprop((iLoc d ↦{fullShare} (fi d : Buf (Elt F) (iLoc d))) ∗ (sLoc d ↦{fullShare} (fs d : Buf (Elt F) (sLoc d)))
        ∗ (vLoc d ↦{fullShare} (fv d : Buf (Elt F) (vLoc d))) ∗ oLoc d ↦{fullShare} (dedups (fi d) (fs d) (fv d) : Buf (Elt F) (oLoc d))) := by
  show (bigSep (Finset.univ : Finset (Fin 2)) fun c => dnP fi fs fv d c.val) ⊢ _
  rw [← i_rows, ← s_rows, ← v_rows, ← o_rows, ← bigSep_sep', ← bigSep_sep', ← bigSep_sep']
  refine bigSep_mono fun c _ => ?_
  rw [← bigSep_sep', ← bigSep_sep', ← bigSep_sep']
  unfold dnP
  refine bigSep_mono fun i _ => ?_
  unfold tdP
  exact Entails.refl _

/-! ## The tasks -/

/-- A task's coordinates, as the body takes them. -/
abbrev coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__dedup_body (coordsV c s) iW (Memref.isWhole_whole _) sW (Memref.isWhole_whole _) vW (Memref.isWhole_whole _) oW (Memref.isWhole_whole _)
          mI (Memref.isWhole_whole _) mS (Memref.isWhole_whole _) mV (Memref.isWhole_whole _) mO (Memref.isWhole_whole _) mT (Memref.isWhole_whole _)
          cc1_scoped0 cc1_scoped1 cc1_scoped2 cc1_scoped3) ⟨⟩ c s := rfl

omit [FloatOps F] [Named F] in
theorem obl_post {thr : Thread nD τ} {A B C : sProp 𝕄} {O : CellTallies nD τ sig (HIx 1)} {W : Waits sig (HIx 1)} {B' : HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ B' p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hfi : ∀ d x, (fi d x).toNat < 1008) : (K (F := F)).TileObl (D (F := F)) 𝒱 (P fi fs fv) v₀ 0 := by
  intro d c i O W hO _ _
  simp only [show (P fi fs fv).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (sep_mono_right sep_elim_right).trans
    ((tile_body d (coordsV ⟨_, hc.1⟩ ⟨_, hc.2⟩) (fi d) (fs d) (fv d) (hfi d) facts O W hO).trans (wp_mono frame _ _ fun _ => obl_post))

end Cert.Proof.PI
-- ==== Proof.PILaunch.lean ====
/-
  The launch: the TensorCore's program from the arguments to the result, its two regions and its SparseCore call in
  order, and the run of the whole mesh from any memory with zero counters.
-/
module

public import proofs.«01_k».proof.Proof.PISetUp
public import proofs.«01_k».proof.Proof.PIPay

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The contents at the launch. -/
def W0 (c : Dev nD) : Valuation τ sig (Elt F) := fun b => m (c, b)

/-- The SparseCore call's operands. -/
def opI (c : Dev nD) : S8x5120.Idx → BitVec 32 := V3 (W0 m c) (dr main_v6)
def opS (c : Dev nD) : S8x5120.Idx → F .f32 := V3 (W0 m c) (dr main_v8)
def opV (c : Dev nD) : S8x5120.Idx → F .f32 := V3 (W0 m c) (dr main_v10)
theorem opI_lt (c : Dev nD) (x : S8x5120.Idx) : (opI m c x).toNat < 1008 := by
  unfold opI; rw [V3_v6]; exact fIdx_lt _ _ x

/-- The regions' proof data. -/
def pdats : (p : Fin 2) → (c : Dev nD) → Dat τ (Elt F) (HIx 1) ℕ UU ℕ (Pipeline.pin (pcfgs (F := F)) adm p) c
  | 0, c => datA (fun c => V1 (W0 m c)) c
  | 1, c => datB (fun c => V5 (W0 m c)) c

theorem hinj : Function.Injective (Pipeline.cellOf (nD := nD) (τ := τ) (Pipeline.pin (pcfgs (F := F)) adm)) := launch0.toP.cellOf_inj adm

abbrev nowA (c : Dev nD) : Valuation τ sig (Elt F) := V1 (W0 m c)
abbrev nowB (c : Dev nD) : Valuation τ sig (Elt F) := V5 (W0 m c)

theorem pdats0 (c : Dev nD) : pdats m 0 c = datA (nowA m) c := rfl
theorem pdats1 (c : Dev nD) : pdats m 1 c = datB (nowB m) c := rfl

theorem owedA (c : Dev nD) (t) : (pdats m 0 c).owed t = (K (F := F)).Otc c 0 := by
  rw [pdats0]; dsimp only [datA]
theorem recordedA (c : Dev nD) (t) : (pdats m 0 c).recorded t = rec (F := F) c 0 := by
  rw [pdats0]; dsimp only [datA]
theorem invariantA (c : Dev nD) (t) : (pdats m 0 c).Φ t = Pipeline.scopedRest (Ix := HIx 1) (Name := ℕ) (U := UU) (Lvl := ℕ) (Val := Elt F) (Pipeline.pin (pcfgs (F := F)) adm 0).spec c := by
  rw [pdats0]; dsimp only [datA]; rfl
theorem shareA (c : Dev nD) (w) : (pdats m 0 c).q w = fullShare := by
  rw [pdats0]; dsimp only [datA]
theorem entryA (c : Dev nD) (w) : (pdats m 0 c).A w = nowA m c (Proc.devRef .tc (Pipeline.arrRef (Pipeline.pin (pcfgs (F := F)) adm 0).spec w)) := by
  rw [pdats0]; dsimp only [datA]; rfl
theorem bodyA_loose (c : Dev nD) : Pipeline.BodyObligationLoose (pdats m 0 c) (defs₀ (F := F)) 𝒱₀ none Set.univ := by
  rw [pdats0]; exact (bodyA (nowA m) c).loose
theorem exitA (c : Dev nD) (w) : (pdats m 0 c).arrAt w (Pipeline.pin (pcfgs (F := F)) adm 0).N = V2 (W0 m c) (Proc.devRef .tc (Pipeline.arrRef (Pipeline.pin (pcfgs (F := F)) adm 0).spec w)) := by
  rw [pdats0]
  change Fin 6 at w
  fin_cases w
  · exact (Pipeline.Dat.arrAt_in (datA (nowA m) c) 0 rfl _).trans (show nowA m c (dr main_arg0) = V2 (W0 m c) (dr main_arg0) from (V2_of_ne _ (by decide) (by decide) (by decide) (by decide)).symm)
  · exact (Pipeline.Dat.arrAt_in (datA (nowA m) c) 1 rfl _).trans (show nowA m c (dr main_v3) = V2 (W0 m c) (dr main_v3) from (V2_of_ne _ (by decide) (by decide) (by decide) (by decide)).symm)
  · exact (finalA2 (nowA m) c).trans (V2_v4_0 (W0 m c)).symm
  · exact (finalA3 (nowA m) c).trans (V2_v4_1 (W0 m c)).symm
  · exact (finalA4 (nowA m) c).trans (V2_v4_2 (W0 m c)).symm
  · exact (finalA5 (nowA m) c).trans (V2_v4_3 (W0 m c)).symm
theorem offA (c : Dev nD) (b : Ref sig .tc) (hb : b ∉ Finset.univ.image (Pipeline.arrRef (Pipeline.pin (pcfgs (F := F)) adm 0).spec)) :
    V2 (W0 m c) (Proc.devRef .tc b) = nowA m c (Proc.devRef .tc b) :=
  V2_of_ne _
    (fun e => hb (Finset.mem_image.mpr ⟨(2 : Fin 6), Finset.mem_univ _, e.symm⟩))
    (fun e => hb (Finset.mem_image.mpr ⟨(3 : Fin 6), Finset.mem_univ _, e.symm⟩))
    (fun e => hb (Finset.mem_image.mpr ⟨(4 : Fin 6), Finset.mem_univ _, e.symm⟩))
    (fun e => hb (Finset.mem_image.mpr ⟨(5 : Fin 6), Finset.mem_univ _, e.symm⟩))

/-- The region's segment. -/
def segA : Pipeline.RegionSeg (pcfgs (F := F)) adm (pdats m) none defs₀ 𝒱₀ (K (F := F)).L (K (F := F)).lev 0 :=
  seg (pdats m) 0 0 launch0.toP rfl (bodyA_loose m) (owedA m) (recordedA m) (invariantA m) (shareA m) (nowA m) (fun c => V2 (W0 m c)) (entryA m) (exitA m) (offA m)

theorem owedB (c : Dev nD) (t) : (pdats m 1 c).owed t = (K (F := F)).Otc c 1 := by
  rw [pdats1]; dsimp only [datB]
theorem recordedB (c : Dev nD) (t) : (pdats m 1 c).recorded t = rec (F := F) c 1 := by
  rw [pdats1]; dsimp only [datB]
theorem invariantB (c : Dev nD) (t) : (pdats m 1 c).Φ t = Pipeline.scopedRest (Ix := HIx 1) (Name := ℕ) (U := UU) (Lvl := ℕ) (Val := Elt F) (Pipeline.pin (pcfgs (F := F)) adm 1).spec c := by
  rw [pdats1]; dsimp only [datB]; rfl
theorem shareB (c : Dev nD) (w) : (pdats m 1 c).q w = fullShare := by
  rw [pdats1]; dsimp only [datB]
theorem entryB (c : Dev nD) (w) : (pdats m 1 c).A w = nowB m c (Proc.devRef .tc (Pipeline.arrRef (Pipeline.pin (pcfgs (F := F)) adm 1).spec w)) := by
  rw [pdats1]; dsimp only [datB]; rfl
theorem bodyB_loose (c : Dev nD) : Pipeline.BodyObligationLoose (pdats m 1 c) (defs₀ (F := F)) 𝒱₀ none Set.univ := by
  rw [pdats1]; exact (bodyB (nowB m) c).loose
theorem exitB (c : Dev nD) (w) : (pdats m 1 c).arrAt w (Pipeline.pin (pcfgs (F := F)) adm 1).N = V6 (W0 m c) (Proc.devRef .tc (Pipeline.arrRef (Pipeline.pin (pcfgs (F := F)) adm 1).spec w)) := by
  rw [pdats1]
  change Fin 5 at w
  fin_cases w
  · exact (Pipeline.Dat.arrAt_in (datB (nowB m) c) 0 rfl _).trans ((entryB m c 0).trans (V6_of_ne (W0 m c) (show main_arg0 ≠ main_v14 by decide)).symm)
  · exact (Pipeline.Dat.arrAt_in (datB (nowB m) c) 1 rfl _).trans ((entryB m c 1).trans (V6_of_ne (W0 m c) (show main_v3 ≠ main_v14 by decide)).symm)
  · exact (Pipeline.Dat.arrAt_in (datB (nowB m) c) 2 rfl _).trans ((entryB m c 2).trans (V6_of_ne (W0 m c) (show main_v4_2 ≠ main_v14 by decide)).symm)
  · exact (Pipeline.Dat.arrAt_in (datB (nowB m) c) 3 rfl _).trans ((entryB m c 3).trans (V6_of_ne (W0 m c) (show main_v13 ≠ main_v14 by decide)).symm)
  · exact (finalB4 (nowB m) c).trans (show _ = V6 (W0 m c) (dr main_v14) by unfold V6; rw [Function.update_self])
theorem offB (c : Dev nD) (b : Ref sig .tc) (hb : b ∉ Finset.univ.image (Pipeline.arrRef (Pipeline.pin (pcfgs (F := F)) adm 1).spec)) :
    V6 (W0 m c) (Proc.devRef .tc b) = nowB m c (Proc.devRef .tc b) :=
  V6_of_ne _ (fun e => hb (Finset.mem_image.mpr ⟨(4 : Fin 5), Finset.mem_univ _, e.symm⟩))

/-- The region's segment. -/
def segB : Pipeline.RegionSeg (pcfgs (F := F)) adm (pdats m) none defs₀ 𝒱₀ (K (F := F)).L (K (F := F)).lev 1 :=
  seg (pdats m) 1 1 launch2.toP rfl (bodyB_loose m) (owedB m) (recordedB m) (invariantB m) (shareB m) (nowB m) (fun c => V6 (W0 m c)) (entryB m) (exitB m) (offB m)

theorem segA_pre (c : Dev nD) : (segA m).pre c = iprop(StableHlo.held (T c) ucRefs (V1 (W0 m c)) ∗ tcOwes c 0) := rfl
theorem segA_post (c : Dev nD) : (segA m).post c = iprop(StableHlo.held (T c) ucRefs (V2 (W0 m c)) ∗ tcOwes c 0) := rfl
theorem segB_pre (c : Dev nD) : (segB m).pre c = iprop(StableHlo.held (T c) ucRefs (V5 (W0 m c)) ∗ tcOwes c 1) := rfl
theorem segB_post (c : Dev nD) : (segB m).post c = iprop(StableHlo.held (T c) ucRefs (V6 (W0 m c)) ∗ tcOwes c 1) := rfl

/-- A region of the program, under the SparseCores' body table. -/
theorem region_step [∀ e, Nonempty (Elt F e)] {p : Fin 2} (R : Pipeline.RegionSeg (pcfgs (F := F)) adm (pdats m) none defs₀ 𝒱₀ (K (F := F)).L (K (F := F)).lev p)
    (d : Dev nD) (Φ : PUnit → sProp 𝕄) :
    (iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) : sProp 𝕄)
      ⊢ wp frame (wpE ((K (F := F)).defs (D (F := F))) 𝒱 (T d) none) Set.univ
          (Prog.lift (.customCall (SparseCore.inner (Pipeline.entry p)) ()) : Prog (TpuEff nD τ sig (Elt F) (SparseCore.Sig (ΛP (F := F)) 1) .tc) PUnit) Φ := by
  refine BI.Entails.trans ?_ ((K (F := F)).wp_liftProg (D (F := F)) 𝒱 (T d) Set.univ none (.op (.customCall (Pipeline.entry p) ()) .ret) Φ)
  refine BIBase.Entails.trans (sep_mono_left ?_) (Pipeline.RegionSeg.wp (pcfgs (F := F)) adm (pdats m) none hinj EP defs₀ 𝒱₀ (K (F := F)).L (K (F := F)).lev R d none (fun _ h => nomatch h) .ret Φ)
  iintro Hk H
  rw [wp_ret]; imodintro
  iapply Hk; iexact H

end Cert.Proof.PI
-- ==== Proof.PIRun.lean ====
/-
  The program's run: from any memory with zero counters it ends with the result array at the program's function of the
  arguments, the arguments as they were, and every counter at zero.
-/
module

public import proofs.«01_k».proof.Proof.PISetUp
public import proofs.«01_k».proof.Proof.PILaunch

@[expose] public section

set_option maxRecDepth 16384

noncomputable section

namespace Cert.Proof.PI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev Pm : (K (F := F)).Pay (nD := nD) (Val := Elt F) (Name := ℕ) (U := UU) := P (opI m) (opS m) (opV m)
abbrev pins : (p : Fin 2) → Pipeline.Cfg sig Λ₀ := Pipeline.pin (pcfgs (F := F)) adm

/-! ## The launch element -/

def uP : UP := initOf (Pipeline.cells (nD := nD) (τ := τ) (pins (F := F)) hinj) (Pipeline.launchToks (nD := nD) (τ := τ) (pins (F := F)) hinj)
def u₀ : UU := (initOf (K (F := F)).hsCells (K (F := F)).hsToks, (uP (F := F), 1))

/-- What the launch deals a device: its pipelines' ghost state. -/
def G (d : Dev nD) : sProp 𝕄 :=
  iprop((Pipeline.cellsGhost (pins (F := F)) EP 0 d ∗ Pipeline.cellsGhost (pins (F := F)) EP 1 d)
    ∗ Pipeline.toksInit (pins (F := F)) EP 0 d ∗ Pipeline.toksInit (pins (F := F)) EP 1 d)

omit [FloatOps F] [Named F] in
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem deal : (BI.own (EP (uP (F := F))) : sProp 𝕄) ⊢ |==> bigSep Finset.univ (G (F := F)) := by
  refine BIBase.Entails.trans (Pipeline.fund_ghost (pins (F := F)) EP hinj) (bupd_mono ?_)
  rw [← bigSep_sep']
  refine bigSep_mono fun d _ => ?_
  rw [bigSep_two, bigSep_two]
  unfold G
  exact Entails.refl _

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (Pm m).x q thr) := by
  unfold u₀
  iintro Hu
  ihave H := (ownU_pair _ _) $$ Hu
  icases H with ⟨HH, HP⟩
  ihave HP' := (show (BI.own (embR ((uP (F := F), 1) : UP × Counters)) : sProp 𝕄) ⊢ BI.own (EP (uP (F := F))) from Entails.refl _) $$ HP
  imod (deal (F := F)) $$ HP' with HG
  imodintro
  isplitl [HH]; · iexact HH
  isplitl [HG]; · iexact HG
  unfold Pm P; dsimp only
  rw [show (bigSep Finset.univ fun _ : Thread nD τ => bigSep Finset.univ fun _ : Fin 1 => (iprop(emp) : sProp 𝕄)) = iprop(emp) from by
    exact (bigSep_congr fun _ _ => bigSep_emp_const _).trans (bigSep_emp_const _)]
  iempintro

/-! ## The program on the TensorCore -/

theorem unscoped_held (d : Dev nD) : (unscopedBufs d (fun b => m ((SparseCore.T d).loc b)) : sProp 𝕄) = StableHlo.held (T d) ucRefs (W0 m d) := by
  rw [← unscopedBufs_held]; rfl

/-- The arrays of the SparseCore call, out of what the TensorCore holds. -/
abbrev scArrs : Finset (DevRef τ sig) := {dr main_v6, dr main_v8, dr main_v10, dr main_v11}
theorem scArrs_sub : scArrs ⊆ ucRefs := sub4 rfl rfl rfl rfl
omit [FloatOps F] [Named F] in
theorem held_scArrs (d : Dev nD) (W : Valuation τ sig (Elt F)) :
    (StableHlo.held (T d) scArrs W : sProp 𝕄)
      = iprop((iLoc d ↦{fullShare} W (dr main_v6)) ∗ (sLoc d ↦{fullShare} W (dr main_v8)) ∗ (vLoc d ↦{fullShare} W (dr main_v10)) ∗ oLoc d ↦{fullShare} W (dr main_v11)) := by
  unfold StableHlo.held scArrs
  rw [SparseCore.bigSep_insert' (by decide), SparseCore.bigSep_insert' (by decide), SparseCore.bigSep_insert' (by decide), bigSep_singleton]

theorem V4_v11 (V : Valuation τ sig (Elt F)) : V4 V (dr main_v11) = (dedups (V3 V (dr main_v6)) (V3 V (dr main_v8)) (V3 V (dr main_v10)) : S8x5120.Idx → Elt F .f32) := by
  unfold V4; rw [Function.update_self]

/-- The call's arrays come back: all the TensorCore holds, at the contents after the call. -/
theorem held_V4 (d : Dev nD) (V : Valuation τ sig (Elt F)) :
    (iprop(((iLoc d ↦{fullShare} V3 V (dr main_v6)) ∗ (sLoc d ↦{fullShare} V3 V (dr main_v8)) ∗ (vLoc d ↦{fullShare} V3 V (dr main_v10))
        ∗ oLoc d ↦{fullShare} (dedups (V3 V (dr main_v6)) (V3 V (dr main_v8)) (V3 V (dr main_v10)) : Buf (Elt F) (oLoc d)))
      ∗ StableHlo.held (T d) (ucRefs \ scArrs) (V3 V)) : sProp 𝕄) ⊢ StableHlo.held (T d) ucRefs (V4 V) := by
  rw [StableHlo.held_sub_split (T d) scArrs_sub (V4 V), held_scArrs,
    StableHlo.held_congr (T d) (S := ucRefs \ scArrs) (V := V4 V) (V' := V3 V) (fun b hb => by
      unfold V4
      refine Function.update_of_ne (fun e => (Finset.mem_sdiff.mp hb).2 ?_) _ _
      rw [e]; decide),
    V4_of_ne V (by decide), V4_of_ne V (by decide), V4_of_ne V (by decide), V4_v11]

abbrev FIN (d : Dev nD) : sProp 𝕄 := StableHlo.held (T d) ucRefs (V6 (W0 m d))

theorem after_V3 (V : Valuation τ sig (Elt F)) : StableHlo.after opsB (V2 V) = V3 V := rfl
/-- What the TensorCore keeps of the SparseCore's launch besides what it owes, before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt0 (d : Dev nD) : ((K (F := F)).tcSt EH d 0 : sProp 𝕄) = iprop(tcOwes d 0 ∗ tcRest d 0) := by
  unfold SparseCore.Cfg.tcSt tcRest tcOwes
  rw [show SparseCore.Cfg.Blocks.fst 1 1 0 = 0 from by decide]
theorem tcSt1 (d : Dev nD) : ((K (F := F)).tcSt EH d ((0 : Fin 1).val + 1) : sProp 𝕄) = iprop(tcOwes d 1 ∗ tcRest d 1) := by
  rw [show (0 : Fin 1).val + 1 = 1 from rfl]
  unfold SparseCore.Cfg.tcSt tcRest tcOwes
  rw [show SparseCore.Cfg.Blocks.fst 1 1 1 = 1 from by decide]

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscoped_held, main_eq]
  iintro ⟨#Hctx, Hst, ⟨Hb, Hheld, Hts, -⟩, ⟨Hg0, Hg1⟩, Ht0, Ht1⟩
  ihave #Hlev := ((K (F := F)).ctx_levAts κ) $$ Hctx
  -- the first stretch
  iapply (StableHlo.wp_seq 𝒱 none Set.univ d ucRefs _ opsA (List.forall_iff_forall_mem.mp subA) (List.forall_iff_forall_mem.mp freshA) (W0 m d)) $$ [Hb Hheld]
  · isplitl [Hb] <;> iassumption
  iintro ⟨Hb, Hheld⟩
  -- the first region
  rw [wp_bind]
  ihave Hst := (Entails.of_eq (tcSt0 d)) $$ Hst
  icases Hst with ⟨HO, Hst⟩
  iapply (region_step m (segA m) d)
  rw [segA_pre, segA_post]
  isplitr [Hb Hheld HO Hg0 Ht0]
  · iintro ⟨Hb, Hheld, HO⟩
    iapply (StableHlo.wp_seq 𝒱 none Set.univ d ucRefs _ opsB (List.forall_iff_forall_mem.mp subB) (List.forall_iff_forall_mem.mp freshB) (V2 (W0 m d))) $$ [Hb Hheld]
    · isplitl [Hb] <;> iassumption
    iintro ⟨Hb, Hheld⟩
    rw [after_V3]
    -- the SparseCore call
    rw [wp_bind]
    ihave Hh := (Entails.of_eq (StableHlo.held_sub_split (T d) scArrs_sub (V3 (W0 m d)))) $$ Hheld
    icases Hh with ⟨Harr, Hheld⟩
    ihave Harr' := (Entails.of_eq (held_scArrs d (V3 (W0 m d)))) $$ Harr
    iapply ((K (F := F)).wp_run (D (F := F)) 𝒱 (EH := EH) (P := Pm m) κ d 0)
    isplitr; · iexact Hctx
    isplitl [HO Hst]
    · iapply (Entails.of_eq (tcSt0 d).symm)
      isplitl [HO] <;> iassumption
    isplitl [Harr']
    · iapply (st_intro (opI m) (opS m) (opV m) d (V3 (W0 m d) (dr main_v11))); iexact Harr'
    iintro ⟨Hst, Hdn⟩
    ihave Hdn' := (dn_elim (opI m) (opS m) (opV m) d) $$ Hdn
    ihave Hheld' := (held_V4 d (W0 m d)) $$ [Hdn' Hheld]
    · isplitl [Hdn']; · iexact Hdn'
      iexact Hheld
    -- the third stretch
    iapply (StableHlo.wp_seq 𝒱 none Set.univ d ucRefs _ opsC (List.forall_iff_forall_mem.mp subC) (List.forall_iff_forall_mem.mp freshC) (V4 (W0 m d))) $$ [Hb Hheld']
    · isplitl [Hb] <;> iassumption
    iintro ⟨Hb, Hheld⟩
    -- the second region
    rw [wp_bind]
    ihave Hst := (Entails.of_eq (tcSt1 d)) $$ Hst
    icases Hst with ⟨HO, Hst⟩
    iapply (region_step m (segB m) d)
    rw [segB_pre, segB_post]
    isplitr [Hb Hheld HO Hg1 Ht1]
    · iintro ⟨Hb, Hheld, HO⟩
      rw [wp_pure]; imodintro
      isplitl [HO Hst]
      · iapply (Entails.of_eq (tcSt1 d).symm)
        isplitl [HO] <;> iassumption
      isplitl [Hheld]; · iexact Hheld
      isplitl [Hb] <;> iassumption
    isplitl [Hb]; · iexact Hb
    isplitl [Hheld HO]
    · isplitl [Hheld]; · iexact Hheld
      iexact HO
    isplitr; · iexact Hlev
    isplitl [Hg1] <;> iassumption
  isplitl [Hb]; · iexact Hb
  isplitl [Hheld HO]
  · isplitl [Hheld]; · iexact Hheld
    iexact HO
  isplitr; · iexact Hlev
  isplitl [Hg0] <;> iassumption

/-! ## The run -/

def fq (d : Dev nD) (s' : Phys nD τ sig (Elt F)) : Prop :=
  ∀ b : Ref sig .tc, b.isScoped = false → s'.mem.mem ((SparseCore.T d).loc b) = V6 (W0 m d) (dr b)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact fun b hb => h _ (mem_uc b hb)

/-- What the run leaves: the arguments as they were, the result at the program's function of them, every counter at zero. -/
def QC : PUnit × MemSt nD τ sig (Elt F) → Prop := fun r =>
  (∀ c : Dev nD, r.2.mem ((SparseCore.T c).loc main_v14) = (fOut (F := F) (m ((SparseCore.T c).loc main_arg0)) (m ((SparseCore.T c).loc main_arg1)) : S8x5000x1000.Idx → Elt F .f32)
    ∧ r.2.mem ((SparseCore.T c).loc main_arg0) = m ((SparseCore.T c).loc main_arg0) ∧ r.2.mem ((SparseCore.T c).loc main_arg1) = m ((SparseCore.T c).loc main_arg1)) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (opI m) (opS m) (opV m) (opI_lt m))
    (fun q _ => match q with | 0 => SparseCore.Cfg.VecSplit.of_plain (vecSplit (opI m) (opS m) (opV m)))
    m ρ main (G (F := F)) (FIN m) (u₀ (F := F)) (sep_elim_left.trans (hu₀ m)) (hmain m ρ) (fq m) (hfin m) (QC m)
    (fun s' h hz => ⟨fun c => ⟨(h c main_v14 rfl).trans (V6_v14 (W0 m c)), (h c main_arg0 rfl).trans (V6_arg0 (W0 m c)), (h c main_arg1 rfl).trans (V6_arg1 (W0 m c))⟩, hz⟩)

end Cert.Proof.PI
-- ==== Proof.RRun.lean ====
/-
  The reference's run: from any memory with zero counters it ends with the result array at the reference's function of
  the arguments, the arguments as they were, and every counter at zero.
-/
module

public import proofs.«01_k».proof.ReferenceIdeal
public import proofs.«01_k».proof.Proof.Gen.ReferenceIdeal
public import proofs.«01_k».proof.Proof.PISetUp
public import Idealize.ShloMosaic.Lib.StableHlo.Run
public import Idealize.ShloMosaic.Lib.QuiescentFlight

@[expose] public section

set_option maxRecDepth 16384

noncomputable section

namespace Cert.Proof.R

open Cert.ReferenceIdeal Cert.ReferenceIdeal.Gen
open Idealize.ShloMosaic Idealize.ShloMosaic.StableHlo
open Idealize.SL.Sem

variable {F : FTy → Type} [FloatOps F]

abbrev dr (b : Ref sig .tc) : DevRef τ sig := Proc.devRef .tc b

/-- The operations up to the masked logits. -/
def ops1 : List (HloOp τ sig (Elt F)) :=
  [(StableHlo.unary main_arg1 main_v0 (broadcastInDim S8x1x1000 ![0, 2] bcast_S8x1000_S8x1x1000_0_2 : (⟨S8x1000, .i1⟩ : BufTy).Contents (Elt F) → (⟨S8x1x1000, .i1⟩ : BufTy).Contents (Elt F))),
   (StableHlo.unary main_arg0 main_v1 ((extractStridedSlice S8x5000x1000 ![0, 0, 0] · slices_S8x5000x1001_S8x5000x1000_0_0_0) : (⟨S8x5000x1001, .f32⟩ : BufTy).Contents (Elt F) → (⟨S8x5000x1000, .f32⟩ : BufTy).Contents (Elt F))),
   (StableHlo.nullary main_cst (constant S_ .f32 0xFF800000#32)),
   (StableHlo.TRef.unary (.of main_cst : StableHlo.TRef sig ⟨S_, .f32⟩) main_call0.v0 id),
   (StableHlo.TRef.unary (.of main_v0 : StableHlo.TRef sig ⟨S8x1x1000, .i1⟩) main_call0.v1 (broadcastInDim S8x5000x1000 ![0, 1, 2] bcast_S8x1x1000_S8x5000x1000_0_1_2)),
   (StableHlo.TRef.unary main_call0.v0 main_call0.v2 (broadcastInDim S8x5000x1000 ![] bcast_S_S8x5000x1000)),
   (StableHlo.TRef.ternary main_call0.v1 (.of main_v1 : StableHlo.TRef sig ⟨S8x5000x1000, .f32⟩) main_call0.v2 main_call0.v3 select),
   (StableHlo.unary main_arg0 main_v3 ((extractStridedSlice S8x5000x1 ![0, 0, 1000] · slices_S8x5000x1001_S8x5000x1_0_0_1000) : (⟨S8x5000x1001, .f32⟩ : BufTy).Contents (Elt F) → (⟨S8x5000x1, .f32⟩ : BufTy).Contents (Elt F))),
   (StableHlo.binary main_v2 main_v3 main_v4 ((fun a b => concatenate S8x5000x1001 2 [⟨S8x5000x1000, a⟩, ⟨S8x5000x1, b⟩] concatenates_S8x5000x1000_S8x5000x1_S8x5000x1001_d2) : (⟨S8x5000x1000, .f32⟩ : BufTy).Contents (Elt F) → (⟨S8x5000x1, .f32⟩ : BufTy).Contents (Elt F) → (⟨S8x5000x1001, .f32⟩ : BufTy).Contents (Elt F)))]

/-- The operations up to the predicted class. -/
def ops2 : List (HloOp τ sig (Elt F)) :=
  [(StableHlo.TRef.nullary main_call1.v0 (iotaInDim S8x5000x1001 32 2)),
   (StableHlo.TRef.nullary main_call1.cst (constant S_ .f32 0xFF800000#32)),
   (StableHlo.TRef.nullary main_call1.c (constantI S_ 32 0#32)),
   (StableHlo.TRef.quaternary (.of main_v4 : StableHlo.TRef sig ⟨S8x5000x1001, .f32⟩) main_call1.v0 main_call1.cst main_call1.c main_call1.v1_0 (fun x y u v j => (Host.argReduce reducer_argmax_f32_i32 x y u v reducesTo_S8x5000x1001_S8x5000_d2 h_S_ j).1)),
   (StableHlo.TRef.quaternary (.of main_v4 : StableHlo.TRef sig ⟨S8x5000x1001, .f32⟩) main_call1.v0 main_call1.cst main_call1.c main_call1.v1_1 (fun x y u v j => (Host.argReduce reducer_argmax_f32_i32 x y u v reducesTo_S8x5000x1001_S8x5000_d2 h_S_ j).2))]

/-- The operations up to the softmax over all classes. -/
def ops3 : List (HloOp τ sig (Elt F)) :=
  [(StableHlo.nullary main_cst_0 (constant S_ .f32 0xFF800000#32)),
   (StableHlo.binary main_v4 main_cst_0 main_v6 ((fun x v => Host.reduce FloatOps.maximumf x v reducesTo_S8x5000x1001_S8x5000_d2 h_S_) : (⟨S8x5000x1001, .f32⟩ : BufTy).Contents (Elt F) → (⟨S_, .f32⟩ : BufTy).Contents (Elt F) → (⟨S8x5000, .f32⟩ : BufTy).Contents (Elt F))),
   (StableHlo.nullary main_cst_1 (constant S_ .f32 0xFF800000#32)),
   (StableHlo.unary main_cst_1 main_v7 (broadcastInDim S8x5000 ![] bcast_S_S8x5000 : (⟨S_, .f32⟩ : BufTy).Contents (Elt F) → (⟨S8x5000, .f32⟩ : BufTy).Contents (Elt F))),
   (StableHlo.binary main_v7 main_v6 main_v8 (maximumf : (⟨S8x5000, .f32⟩ : BufTy).Contents (Elt F) → (⟨S8x5000, .f32⟩ : BufTy).Contents (Elt F) → (⟨S8x5000, .f32⟩ : BufTy).Contents (Elt F))),
   (StableHlo.unary main_v8 main_v9 (broadcastInDim S8x5000x1 ![0, 1] bcast_S8x5000_S8x5000x1_0_1 : (⟨S8x5000, .f32⟩ : BufTy).Contents (Elt F) → (⟨S8x5000x1, .f32⟩ : BufTy).Contents (Elt F))),
   (StableHlo.unary main_v9 main_v10 (broadcastInDim S8x5000x1001 ![0, 1, 2] bcast_S8x5000x1_S8x5000x1001_0_1_2 : (⟨S8x5000x1, .f32⟩ : BufTy).Contents (Elt F) → (⟨S8x5000x1001, .f32⟩ : BufTy).Contents (Elt F))),
   (StableHlo.binary main_v4 main_v10 main_v11 (subf : (⟨S8x5000x1001, .f32⟩ : BufTy).Contents (Elt F) → (⟨S8x5000x1001, .f32⟩ : BufTy).Contents (Elt F) → (⟨S8x5000x1001, .f32⟩ : BufTy).Contents (Elt F))),
   (StableHlo.unary main_v11 main_v12 (Host.exp : (⟨S8x5000x1001, .f32⟩ : BufTy).Contents (Elt F) → (⟨S8x5000x1001, .f32⟩ : BufTy).Contents (Elt F))),
   (StableHlo.nullary main_cst_2 (constant S_ .f32 0x00000000#32)),
   (StableHlo.binary main_v12 main_cst_2 main_v13 ((fun x v => Host.reduceAdd x v reducesTo_S8x5000x1001_S8x5000_d2 h_S_) : (⟨S8x5000x1001, .f32⟩ : BufTy).Contents (Elt F) → (⟨S_, .f32⟩ : BufTy).Contents (Elt F) → (⟨S8x5000, .f32⟩ : BufTy).Contents (Elt F))),
   (StableHlo.unary main_v13 main_v14 (broadcastInDim S8x5000x1 ![0, 1] bcast_S8x5000_S8x5000x1_0_1 : (⟨S8x5000, .f32⟩ : BufTy).Contents (Elt F) → (⟨S8x5000x1, .f32⟩ : BufTy).Contents (Elt F))),
   (StableHlo.unary main_v14 main_v15 (broadcastInDim S8x5000x1001 ![0, 1, 2] bcast_S8x5000x1_S8x5000x1001_0_1_2 : (⟨S8x5000x1, .f32⟩ : BufTy).Contents (Elt F) → (⟨S8x5000x1001, .f32⟩ : BufTy).Contents (Elt F))),
   (StableHlo.binary main_v12 main_v15 main_v16 (Host.divf : (⟨S8x5000x1001, .f32⟩ : BufTy).Contents (Elt F) → (⟨S8x5000x1001, .f32⟩ : BufTy).Contents (Elt F) → (⟨S8x5000x1001, .f32⟩ : BufTy).Contents (Elt F)))]

/-- The operations up to the score of the predicted class. -/
def ops4 : List (HloOp τ sig (Elt F)) :=
  [(StableHlo.unary main_v5 main_v17 (broadcastInDim S8x5000x1 ![0, 1] bcast_S8x5000_S8x5000x1_0_1 : (⟨S8x5000, .i32⟩ : BufTy).Contents (Elt F) → (⟨S8x5000x1, .i32⟩ : BufTy).Contents (Elt F))),
   (StableHlo.TRef.nullary main_call2.c (constantI S_ 32 0#32)),
   (StableHlo.TRef.unary main_call2.c main_call2.v0 (broadcastInDim S8x5000x1 ![] bcast_S_S8x5000x1)),
   (StableHlo.TRef.binary (.of main_v17 : StableHlo.TRef sig ⟨S8x5000x1, .i32⟩) main_call2.v0 main_call2.v1 (cmpi .slt)),
   (StableHlo.TRef.nullary main_call2.c_0 (constantI S_ 32 1001#32)),
   (StableHlo.TRef.unary main_call2.c_0 main_call2.v2 (broadcastInDim S8x5000x1 ![] bcast_S_S8x5000x1)),
   (StableHlo.TRef.binary (.of main_v17 : StableHlo.TRef sig ⟨S8x5000x1, .i32⟩) main_call2.v2 main_call2.v3 addi),
   (StableHlo.TRef.ternary main_call2.v1 main_call2.v3 (.of main_v17 : StableHlo.TRef sig ⟨S8x5000x1, .i32⟩) main_call2.v4 select),
   (StableHlo.TRef.reshape main_call2.v4 main_call2.v5 (rfl : (.i32 : EltTy) = .i32) shapeCasts_S8x5000x1_S8x5000x1x1),
   (StableHlo.TRef.binary (.of main_v16 : StableHlo.TRef sig ⟨S8x5000x1001, .f32⟩) main_call2.v5 main_call2.v6 (fun x i => Host.gather gather_S8x5000x1001_S8x5000x1x1_S8x5000x1_n_2_01_01_2_3_111 x i)),
   (StableHlo.reshape main_v18 main_v19 (rfl : (.f32 : EltTy) = .f32) shapeCasts_S8x5000x1_S8x5000)]

/-- The operations up to which queries are valid, and their scores. -/
def ops5 : List (HloOp τ sig (Elt F)) :=
  [(StableHlo.nullary main_c (constantI S_ 32 1000#32)),
   (StableHlo.unary main_c main_v20 (broadcastInDim S8x5000 ![] bcast_S_S8x5000 : (⟨S_, .i32⟩ : BufTy).Contents (Elt F) → (⟨S8x5000, .i32⟩ : BufTy).Contents (Elt F))),
   (StableHlo.binary main_v5 main_v20 main_v21 (cmpi .eq : (⟨S8x5000, .i32⟩ : BufTy).Contents (Elt F) → (⟨S8x5000, .i32⟩ : BufTy).Contents (Elt F) → (⟨S8x5000, .i1⟩ : BufTy).Contents (Elt F))),
   (StableHlo.unary main_v21 main_v22 (noti : (⟨S8x5000, .i1⟩ : BufTy).Contents (Elt F) → (⟨S8x5000, .i1⟩ : BufTy).Contents (Elt F))),
   (StableHlo.nullary main_cst_3 (constant S_ .f32 0xF149F2CA#32)),
   (StableHlo.TRef.unary (.of main_cst_3 : StableHlo.TRef sig ⟨S_, .f32⟩) main_call3.v0 (broadcastInDim S8x5000 ![] bcast_S_S8x5000)),
   (StableHlo.TRef.ternary (.of main_v22 : StableHlo.TRef sig ⟨S8x5000, .i1⟩) (.of main_v19 : StableHlo.TRef sig ⟨S8x5000, .f32⟩) main_call3.v0 main_call3.v1 select)]

/-- The operations up to the best score of each class. -/
def ops6 : List (HloOp τ sig (Elt F)) :=
  [(StableHlo.unary main_v5 main_v24 (broadcastInDim S8x5000x1 ![0, 1] bcast_S8x5000_S8x5000x1_0_1 : (⟨S8x5000, .i32⟩ : BufTy).Contents (Elt F) → (⟨S8x5000x1, .i32⟩ : BufTy).Contents (Elt F))),
   (StableHlo.nullary main_v25 (iotaInDim S1001 32 0)),
   (StableHlo.unary main_v25 main_v26 (broadcastInDim S1x1x1001 ![2] bcast_S1001_S1x1x1001_2 : (⟨S1001, .i32⟩ : BufTy).Contents (Elt F) → (⟨S1x1x1001, .i32⟩ : BufTy).Contents (Elt F))),
   (StableHlo.unary main_v24 main_v27 (broadcastInDim S8x5000x1001 ![0, 1, 2] bcast_S8x5000x1_S8x5000x1001_0_1_2 : (⟨S8x5000x1, .i32⟩ : BufTy).Contents (Elt F) → (⟨S8x5000x1001, .i32⟩ : BufTy).Contents (Elt F))),
   (StableHlo.unary main_v26 main_v28 (broadcastInDim S8x5000x1001 ![0, 1, 2] bcast_S1x1x1001_S8x5000x1001_0_1_2 : (⟨S1x1x1001, .i32⟩ : BufTy).Contents (Elt F) → (⟨S8x5000x1001, .i32⟩ : BufTy).Contents (Elt F))),
   (StableHlo.binary main_v27 main_v28 main_v29 (cmpi .eq : (⟨S8x5000x1001, .i32⟩ : BufTy).Contents (Elt F) → (⟨S8x5000x1001, .i32⟩ : BufTy).Contents (Elt F) → (⟨S8x5000x1001, .i1⟩ : BufTy).Contents (Elt F))),
   (StableHlo.unary main_v23 main_v30 (broadcastInDim S8x5000x1 ![0, 1] bcast_S8x5000_S8x5000x1_0_1 : (⟨S8x5000, .f32⟩ : BufTy).Contents (Elt F) → (⟨S8x5000x1, .f32⟩ : BufTy).Contents (Elt F))),
   (StableHlo.nullary main_cst_4 (constant S_ .f32 0xF149F2CA#32)),
   (StableHlo.TRef.unary (.of main_v30 : StableHlo.TRef sig ⟨S8x5000x1, .f32⟩) main_call4.v0 (broadcastInDim S8x5000x1001 ![0, 1, 2] bcast_S8x5000x1_S8x5000x1001_0_1_2)),
   (StableHlo.TRef.unary (.of main_cst_4 : StableHlo.TRef sig ⟨S_, .f32⟩) main_call4.v1 (broadcastInDim S8x5000x1001 ![] bcast_S_S8x5000x1001)),
   (StableHlo.TRef.ternary (.of main_v29 : StableHlo.TRef sig ⟨S8x5000x1001, .i1⟩) main_call4.v0 main_call4.v1 main_call4.v2 select),
   (StableHlo.nullary main_cst_5 (constant S_ .f32 0xFF800000#32)),
   (StableHlo.binary main_v31 main_cst_5 main_v32 ((fun x v => Host.reduce FloatOps.maximumf x v reducesTo_S8x5000x1001_S8x1001_d1 h_S_) : (⟨S8x5000x1001, .f32⟩ : BufTy).Contents (Elt F) → (⟨S_, .f32⟩ : BufTy).Contents (Elt F) → (⟨S8x1001, .f32⟩ : BufTy).Contents (Elt F)))]

/-- The operations up to which queries are kept. -/
def ops7 : List (HloOp τ sig (Elt F)) :=
  [(StableHlo.TRef.nullary main_call5.c (constantI S_ 32 0#32)),
   (StableHlo.TRef.unary main_call5.c main_call5.v0 (broadcastInDim S8x5000 ![] bcast_S_S8x5000)),
   (StableHlo.TRef.binary (.of main_v5 : StableHlo.TRef sig ⟨S8x5000, .i32⟩) main_call5.v0 main_call5.v1 (cmpi .slt)),
   (StableHlo.TRef.nullary main_call5.c_0 (constantI S_ 32 1001#32)),
   (StableHlo.TRef.unary main_call5.c_0 main_call5.v2 (broadcastInDim S8x5000 ![] bcast_S_S8x5000)),
   (StableHlo.TRef.binary (.of main_v5 : StableHlo.TRef sig ⟨S8x5000, .i32⟩) main_call5.v2 main_call5.v3 addi),
   (StableHlo.TRef.ternary main_call5.v1 main_call5.v3 (.of main_v5 : StableHlo.TRef sig ⟨S8x5000, .i32⟩) main_call5.v4 select),
   (StableHlo.TRef.reshape main_call5.v4 main_call5.v5 (rfl : (.i32 : EltTy) = .i32) shapeCasts_S8x5000_S8x5000x1),
   (StableHlo.TRef.binary (.of main_v32 : StableHlo.TRef sig ⟨S8x1001, .f32⟩) main_call5.v5 main_call5.v6 (fun x i => Host.gather gather_S8x1001_S8x5000x1_S8x5000_n_1_0_0_1_2_11 x i)),
   (StableHlo.binary main_v23 main_v33 main_v34 (cmpf .oeq : (⟨S8x5000, .f32⟩ : BufTy).Contents (Elt F) → (⟨S8x5000, .f32⟩ : BufTy).Contents (Elt F) → (⟨S8x5000, .i1⟩ : BufTy).Contents (Elt F))),
   (StableHlo.binary main_v22 main_v34 main_v35 (andi : (⟨S8x5000, .i1⟩ : BufTy).Contents (Elt F) → (⟨S8x5000, .i1⟩ : BufTy).Contents (Elt F) → (⟨S8x5000, .i1⟩ : BufTy).Contents (Elt F)))]

/-- The operations up to the softmax over the vector classes. -/
def ops8 : List (HloOp τ sig (Elt F)) :=
  [(StableHlo.nullary main_cst_6 (constant S_ .f32 0xFF800000#32)),
   (StableHlo.binary main_v2 main_cst_6 main_v36 ((fun x v => Host.reduce FloatOps.maximumf x v reducesTo_S8x5000x1000_S8x5000_d2 h_S_) : (⟨S8x5000x1000, .f32⟩ : BufTy).Contents (Elt F) → (⟨S_, .f32⟩ : BufTy).Contents (Elt F) → (⟨S8x5000, .f32⟩ : BufTy).Contents (Elt F))),
   (StableHlo.nullary main_cst_7 (constant S_ .f32 0xFF800000#32)),
   (StableHlo.unary main_cst_7 main_v37 (broadcastInDim S8x5000 ![] bcast_S_S8x5000 : (⟨S_, .f32⟩ : BufTy).Contents (Elt F) → (⟨S8x5000, .f32⟩ : BufTy).Contents (Elt F))),
   (StableHlo.binary main_v37 main_v36 main_v38 (maximumf : (⟨S8x5000, .f32⟩ : BufTy).Contents (Elt F) → (⟨S8x5000, .f32⟩ : BufTy).Contents (Elt F) → (⟨S8x5000, .f32⟩ : BufTy).Contents (Elt F))),
   (StableHlo.unary main_v38 main_v39 (broadcastInDim S8x5000x1 ![0, 1] bcast_S8x5000_S8x5000x1_0_1 : (⟨S8x5000, .f32⟩ : BufTy).Contents (Elt F) → (⟨S8x5000x1, .f32⟩ : BufTy).Contents (Elt F))),
   (StableHlo.unary main_v39 main_v40 (broadcastInDim S8x5000x1000 ![0, 1, 2] bcast_S8x5000x1_S8x5000x1000_0_1_2 : (⟨S8x5000x1, .f32⟩ : BufTy).Contents (Elt F) → (⟨S8x5000x1000, .f32⟩ : BufTy).Contents (Elt F))),
   (StableHlo.binary main_v2 main_v40 main_v41 (subf : (⟨S8x5000x1000, .f32⟩ : BufTy).Contents (Elt F) → (⟨S8x5000x1000, .f32⟩ : BufTy).Contents (Elt F) → (⟨S8x5000x1000, .f32⟩ : BufTy).Contents (Elt F))),
   (StableHlo.unary main_v41 main_v42 (Host.exp : (⟨S8x5000x1000, .f32⟩ : BufTy).Contents (Elt F) → (⟨S8x5000x1000, .f32⟩ : BufTy).Contents (Elt F))),
   (StableHlo.nullary main_cst_8 (constant S_ .f32 0x00000000#32)),
   (StableHlo.binary main_v42 main_cst_8 main_v43 ((fun x v => Host.reduceAdd x v reducesTo_S8x5000x1000_S8x5000_d2 h_S_) : (⟨S8x5000x1000, .f32⟩ : BufTy).Contents (Elt F) → (⟨S_, .f32⟩ : BufTy).Contents (Elt F) → (⟨S8x5000, .f32⟩ : BufTy).Contents (Elt F))),
   (StableHlo.unary main_v43 main_v44 (broadcastInDim S8x5000x1 ![0, 1] bcast_S8x5000_S8x5000x1_0_1 : (⟨S8x5000, .f32⟩ : BufTy).Contents (Elt F) → (⟨S8x5000x1, .f32⟩ : BufTy).Contents (Elt F))),
   (StableHlo.unary main_v44 main_v45 (broadcastInDim S8x5000x1000 ![0, 1, 2] bcast_S8x5000x1_S8x5000x1000_0_1_2 : (⟨S8x5000x1, .f32⟩ : BufTy).Contents (Elt F) → (⟨S8x5000x1000, .f32⟩ : BufTy).Contents (Elt F))),
   (StableHlo.binary main_v42 main_v45 main_v46 (Host.divf : (⟨S8x5000x1000, .f32⟩ : BufTy).Contents (Elt F) → (⟨S8x5000x1000, .f32⟩ : BufTy).Contents (Elt F) → (⟨S8x5000x1000, .f32⟩ : BufTy).Contents (Elt F)))]

/-- The operations up to the result. -/
def ops9 : List (HloOp τ sig (Elt F)) :=
  [(StableHlo.unary main_v35 main_v47 (broadcastInDim S8x5000x1 ![0, 1] bcast_S8x5000_S8x5000x1_0_1 : (⟨S8x5000, .i1⟩ : BufTy).Contents (Elt F) → (⟨S8x5000x1, .i1⟩ : BufTy).Contents (Elt F))),
   (StableHlo.unary main_v47 main_v48 (uitofp .f32 : (⟨S8x5000x1, .i1⟩ : BufTy).Contents (Elt F) → (⟨S8x5000x1, .f32⟩ : BufTy).Contents (Elt F))),
   (StableHlo.unary main_v48 main_v49 (broadcastInDim S8x5000x1000 ![0, 1, 2] bcast_S8x5000x1_S8x5000x1000_0_1_2 : (⟨S8x5000x1, .f32⟩ : BufTy).Contents (Elt F) → (⟨S8x5000x1000, .f32⟩ : BufTy).Contents (Elt F))),
   (StableHlo.binary main_v46 main_v49 main_v50 (mulf : (⟨S8x5000x1000, .f32⟩ : BufTy).Contents (Elt F) → (⟨S8x5000x1000, .f32⟩ : BufTy).Contents (Elt F) → (⟨S8x5000x1000, .f32⟩ : BufTy).Contents (Elt F)))]

/-- Every operation of the reference. -/
def ops : List (HloOp τ sig (Elt F)) := ops1 ++ ops2 ++ ops3 ++ ops4 ++ ops5 ++ ops6 ++ ops7 ++ ops8 ++ ops9

theorem sub1 : (ops1 (F := F)).Forall fun op => op.bufs ⊆ tcRefs τ sig := ⟨unary_bufs_sub .., unary_bufs_sub .., nullary_bufs_sub .., unary_bufs_sub .., unary_bufs_sub .., unary_bufs_sub .., ternary_bufs_sub .., unary_bufs_sub .., binary_bufs_sub ..⟩
theorem fresh1 : (ops1 (F := F)).Forall fun op => op.fresh = ∅ := forall_fresh_of_map rfl
theorem sub2 : (ops2 (F := F)).Forall fun op => op.bufs ⊆ tcRefs τ sig := ⟨nullary_bufs_sub .., nullary_bufs_sub .., nullary_bufs_sub .., quaternary_bufs_sub .., quaternary_bufs_sub ..⟩
theorem fresh2 : (ops2 (F := F)).Forall fun op => op.fresh = ∅ := forall_fresh_of_map rfl
theorem sub3 : (ops3 (F := F)).Forall fun op => op.bufs ⊆ tcRefs τ sig := ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem fresh3 : (ops3 (F := F)).Forall fun op => op.fresh = ∅ := forall_fresh_of_map rfl
theorem sub4 : (ops4 (F := F)).Forall fun op => op.bufs ⊆ tcRefs τ sig := ⟨unary_bufs_sub .., nullary_bufs_sub .., unary_bufs_sub .., binary_bufs_sub .., nullary_bufs_sub .., unary_bufs_sub .., binary_bufs_sub .., ternary_bufs_sub .., reshape_bufs_sub .., binary_bufs_sub .., reshape_bufs_sub ..⟩
theorem fresh4 : (ops4 (F := F)).Forall fun op => op.fresh = ∅ := forall_fresh_of_map rfl
theorem sub5 : (ops5 (F := F)).Forall fun op => op.bufs ⊆ tcRefs τ sig := ⟨nullary_bufs_sub .., unary_bufs_sub .., binary_bufs_sub .., unary_bufs_sub .., nullary_bufs_sub .., unary_bufs_sub .., ternary_bufs_sub ..⟩
theorem fresh5 : (ops5 (F := F)).Forall fun op => op.fresh = ∅ := forall_fresh_of_map rfl
theorem sub6 : (ops6 (F := F)).Forall fun op => op.bufs ⊆ tcRefs τ sig := ⟨unary_bufs_sub .., nullary_bufs_sub .., unary_bufs_sub .., unary_bufs_sub .., unary_bufs_sub .., binary_bufs_sub .., unary_bufs_sub .., nullary_bufs_sub .., unary_bufs_sub .., unary_bufs_sub .., ternary_bufs_sub .., nullary_bufs_sub .., binary_bufs_sub ..⟩
theorem fresh6 : (ops6 (F := F)).Forall fun op => op.fresh = ∅ := forall_fresh_of_map rfl
theorem sub7 : (ops7 (F := F)).Forall fun op => op.bufs ⊆ tcRefs τ sig := ⟨nullary_bufs_sub .., unary_bufs_sub .., binary_bufs_sub .., nullary_bufs_sub .., unary_bufs_sub .., binary_bufs_sub .., ternary_bufs_sub .., reshape_bufs_sub .., binary_bufs_sub .., binary_bufs_sub .., binary_bufs_sub ..⟩
theorem fresh7 : (ops7 (F := F)).Forall fun op => op.fresh = ∅ := forall_fresh_of_map rfl
theorem sub8 : (ops8 (F := F)).Forall fun op => op.bufs ⊆ tcRefs τ sig := ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem fresh8 : (ops8 (F := F)).Forall fun op => op.fresh = ∅ := forall_fresh_of_map rfl
theorem sub9 : (ops9 (F := F)).Forall fun op => op.bufs ⊆ tcRefs τ sig := ⟨unary_bufs_sub .., unary_bufs_sub .., unary_bufs_sub .., binary_bufs_sub ..⟩
theorem fresh9 : (ops9 (F := F)).Forall fun op => op.fresh = ∅ := forall_fresh_of_map rfl

theorem ops_sub : (ops (F := F)).Forall fun op => op.bufs ⊆ tcRefs τ sig := by
  unfold ops
  simp only [List.forall_append]
  exact ⟨⟨⟨⟨⟨⟨⟨⟨sub1, sub2⟩, sub3⟩, sub4⟩, sub5⟩, sub6⟩, sub7⟩, sub8⟩, sub9⟩
theorem ops_fresh : (ops (F := F)).Forall fun op => op.fresh = ∅ := by
  unfold ops
  simp only [List.forall_append]
  exact ⟨⟨⟨⟨⟨⟨⟨⟨fresh1, fresh2⟩, fresh3⟩, fresh4⟩, fresh5⟩, fresh6⟩, fresh7⟩, fresh8⟩, fresh9⟩

set_option maxHeartbeats 4000000 in
theorem main_eq (d : Dev nD) : main (F := F) d = seq (ops (F := F)) := by
  simp only [main, main_part0, main_part1, fn_where.body, fn_argmax.body, fn_take_along_axis.body, fn_where_0.body, fn_where_1.body, fn_take_along_axis_2.body,
    ops, ops1, ops2, ops3, ops4, ops5, ops6, ops7, ops8, ops9, List.cons_append, List.nil_append, seq, bind_assoc, pure_bind]

/-! ## The reference's values -/

variable (a : FVec F S8x5000x1001 .f32) (b : IVec S8x1000 1)

/-- The logits of the vector classes, minus infinity where the mask forbids the class. -/
def vecL : FVec F S8x5000x1000 .f32 :=
  select (broadcastInDim S8x5000x1000 ![0, 1, 2] bcast_S8x1x1000_S8x5000x1000_0_1_2 (broadcastInDim S8x1x1000 ![0, 2] bcast_S8x1000_S8x1x1000_0_2 b))
    (extractStridedSlice S8x5000x1000 ![0, 0, 0] a slices_S8x5000x1001_S8x5000x1000_0_0_0)
    (broadcastInDim S8x5000x1000 ![] bcast_S_S8x5000x1000 (constant S_ .f32 0xFF800000#32 : FVec F S_ .f32))
/-- With the no-object class behind them. -/
def allL (v : FVec F S8x5000x1000 .f32) : FVec F S8x5000x1001 .f32 :=
  concatenate S8x5000x1001 2 [⟨S8x5000x1000, v⟩, ⟨S8x5000x1, extractStridedSlice S8x5000x1 ![0, 0, 1000] a slices_S8x5000x1001_S8x5000x1_0_0_1000⟩]
    concatenates_S8x5000x1000_S8x5000x1_S8x5000x1001_d2
/-- The predicted class of every query. -/
def cls (q : FVec F S8x5000x1001 .f32) : IVec S8x5000 32 := fun j =>
  (Host.argReduce reducer_argmax_f32_i32 q (iotaInDim S8x5000x1001 32 2) (constant S_ .f32 0xFF800000#32) (constantI S_ 32 0#32) reducesTo_S8x5000x1001_S8x5000_d2 h_S_ j).2
/-- The softmax over all classes. -/
def softExp (q : FVec F S8x5000x1001 .f32) : FVec F S8x5000x1001 .f32 :=
  Host.exp (subf q (broadcastInDim S8x5000x1001 ![0, 1, 2] bcast_S8x5000x1_S8x5000x1001_0_1_2 (broadcastInDim S8x5000x1 ![0, 1] bcast_S8x5000_S8x5000x1_0_1
    (maximumf (broadcastInDim S8x5000 ![] bcast_S_S8x5000 (constant S_ .f32 0xFF800000#32 : FVec F S_ .f32))
      (Host.reduce FloatOps.maximumf q (constant S_ .f32 0xFF800000#32) reducesTo_S8x5000x1001_S8x5000_d2 h_S_)))))
def soft (q : FVec F S8x5000x1001 .f32) : FVec F S8x5000x1001 .f32 :=
  Host.divf (softExp q) (broadcastInDim S8x5000x1001 ![0, 1, 2] bcast_S8x5000x1_S8x5000x1001_0_1_2 (broadcastInDim S8x5000x1 ![0, 1] bcast_S8x5000_S8x5000x1_0_1
    (Host.reduceAdd (softExp q) (constant S_ .f32 0x00000000#32) reducesTo_S8x5000x1001_S8x5000_d2 h_S_)))
/-- The softmax at the predicted class. -/
def score (s : FVec F S8x5000x1001 .f32) (i : IVec S8x5000 32) : FVec F S8x5000 .f32 :=
  let i1 := broadcastInDim S8x5000x1 ![0, 1] bcast_S8x5000_S8x5000x1_0_1 i
  shapeCast S8x5000 (Host.gather gather_S8x5000x1001_S8x5000x1x1_S8x5000x1_n_2_01_01_2_3_111 s
    (shapeCast S8x5000x1x1 (select (cmpi .slt i1 (broadcastInDim S8x5000x1 ![] bcast_S_S8x5000x1 (constantI S_ 32 0#32)))
      (addi i1 (broadcastInDim S8x5000x1 ![] bcast_S_S8x5000x1 (constantI S_ 32 1001#32))) i1) shapeCasts_S8x5000x1_S8x5000x1x1)) shapeCasts_S8x5000x1_S8x5000
/-- Which queries predict a vector class; their scores, the others' the least one. -/
def valid (i : IVec S8x5000 32) : IVec S8x5000 1 := noti (cmpi .eq i (broadcastInDim S8x5000 ![] bcast_S_S8x5000 (constantI S_ 32 1000#32)))
def scoreM (i : IVec S8x5000 32) (s : FVec F S8x5000 .f32) : FVec F S8x5000 .f32 :=
  select (valid i) s (broadcastInDim S8x5000 ![] bcast_S_S8x5000 (constant S_ .f32 0xF149F2CA#32 : FVec F S_ .f32))
/-- The best score of each class. -/
def bestR (i : IVec S8x5000 32) (s : FVec F S8x5000 .f32) : FVec F S8x1001 .f32 :=
  Host.reduce FloatOps.maximumf
    (select (cmpi .eq (broadcastInDim S8x5000x1001 ![0, 1, 2] bcast_S8x5000x1_S8x5000x1001_0_1_2 (broadcastInDim S8x5000x1 ![0, 1] bcast_S8x5000_S8x5000x1_0_1 i))
        (broadcastInDim S8x5000x1001 ![0, 1, 2] bcast_S1x1x1001_S8x5000x1001_0_1_2 (broadcastInDim S1x1x1001 ![2] bcast_S1001_S1x1x1001_2 (iotaInDim S1001 32 0))))
      (broadcastInDim S8x5000x1001 ![0, 1, 2] bcast_S8x5000x1_S8x5000x1001_0_1_2 (broadcastInDim S8x5000x1 ![0, 1] bcast_S8x5000_S8x5000x1_0_1 s))
      (broadcastInDim S8x5000x1001 ![] bcast_S_S8x5000x1001 (constant S_ .f32 0xF149F2CA#32 : FVec F S_ .f32)))
    (constant S_ .f32 0xFF800000#32) reducesTo_S8x5000x1001_S8x1001_d1 h_S_
/-- The best score of each query's class. -/
def bestQ (t : FVec F S8x1001 .f32) (i : IVec S8x5000 32) : FVec F S8x5000 .f32 :=
  Host.gather gather_S8x1001_S8x5000x1_S8x5000_n_1_0_0_1_2_11 t
    (shapeCast S8x5000x1 (select (cmpi .slt i (broadcastInDim S8x5000 ![] bcast_S_S8x5000 (constantI S_ 32 0#32)))
      (addi i (broadcastInDim S8x5000 ![] bcast_S_S8x5000 (constantI S_ 32 1001#32))) i) shapeCasts_S8x5000_S8x5000x1)
/-- Which queries are kept. -/
def keepR (v : IVec S8x5000 1) (s : FVec F S8x5000 .f32) (t : FVec F S8x1001 .f32) (i : IVec S8x5000 32) : IVec S8x5000 1 :=
  andi v (cmpf .oeq s (bestQ t i))
/-- The softmax over the vector classes. -/
def probExp (v : FVec F S8x5000x1000 .f32) : FVec F S8x5000x1000 .f32 :=
  Host.exp (subf v (broadcastInDim S8x5000x1000 ![0, 1, 2] bcast_S8x5000x1_S8x5000x1000_0_1_2 (broadcastInDim S8x5000x1 ![0, 1] bcast_S8x5000_S8x5000x1_0_1
    (maximumf (broadcastInDim S8x5000 ![] bcast_S_S8x5000 (constant S_ .f32 0xFF800000#32 : FVec F S_ .f32))
      (Host.reduce FloatOps.maximumf v (constant S_ .f32 0xFF800000#32) reducesTo_S8x5000x1000_S8x5000_d2 h_S_)))))
def probs (v : FVec F S8x5000x1000 .f32) : FVec F S8x5000x1000 .f32 :=
  Host.divf (probExp v) (broadcastInDim S8x5000x1000 ![0, 1, 2] bcast_S8x5000x1_S8x5000x1000_0_1_2 (broadcastInDim S8x5000x1 ![0, 1] bcast_S8x5000_S8x5000x1_0_1
    (Host.reduceAdd (probExp v) (constant S_ .f32 0x00000000#32) reducesTo_S8x5000x1000_S8x5000_d2 h_S_)))
/-- The result. -/
def res (p : FVec F S8x5000x1000 .f32) (k : IVec S8x5000 1) : FVec F S8x5000x1000 .f32 :=
  mulf p (broadcastInDim S8x5000x1000 ![0, 1, 2] bcast_S8x5000x1_S8x5000x1000_0_1_2
    (uitofp .f32 (broadcastInDim S8x5000x1 ![0, 1] bcast_S8x5000_S8x5000x1_0_1 k)))

/-- The reference's function of its arguments. -/
def rOut : FVec F S8x5000x1000 .f32 :=
  let v := vecL a b
  let q := allL a v
  let i := cls q
  let s := scoreM i (score (soft q) i)
  res (probs v) (keepR (valid i) s (bestR i s) i)

/-! ## The values the operations leave -/

variable (W : Valuation τ sig (Elt F))

theorem r1_v2 : after (ops1 (F := F)) W (dr main_v2) = (vecL (W (dr main_arg0)) (W (dr main_arg1)) : S8x5000x1000.Idx → Elt F .f32) := by
  unfold ops1; after_results_simp; rfl
theorem r1_v4 : after (ops1 (F := F)) W (dr main_v4) = (allL (W (dr main_arg0)) (vecL (W (dr main_arg0)) (W (dr main_arg1))) : S8x5000x1001.Idx → Elt F .f32) := by
  unfold ops1; after_results_simp; rfl
theorem p1_arg0 : after (ops1 (F := F)) W (dr main_arg0) = W (dr main_arg0) := by
  unfold ops1; after_results_simp
theorem p1_arg1 : after (ops1 (F := F)) W (dr main_arg1) = W (dr main_arg1) := by
  unfold ops1; after_results_simp
theorem r2_v5 : after (ops2 (F := F)) W (dr main_v5) = (cls (F := F) (W (dr main_v4)) : S8x5000.Idx → Elt F .i32) := by
  unfold ops2; after_results_simp; rfl
theorem p2_arg0 : after (ops2 (F := F)) W (dr main_arg0) = W (dr main_arg0) := by
  unfold ops2; after_results_simp
theorem p2_arg1 : after (ops2 (F := F)) W (dr main_arg1) = W (dr main_arg1) := by
  unfold ops2; after_results_simp
theorem p2_v2 : after (ops2 (F := F)) W (dr main_v2) = W (dr main_v2) := by
  unfold ops2; after_results_simp
theorem p2_v4 : after (ops2 (F := F)) W (dr main_v4) = W (dr main_v4) := by
  unfold ops2; after_results_simp
theorem r3_v16 : after (ops3 (F := F)) W (dr main_v16) = (soft (W (dr main_v4)) : S8x5000x1001.Idx → Elt F .f32) := by
  unfold ops3; after_results_simp; rfl
theorem p3_arg0 : after (ops3 (F := F)) W (dr main_arg0) = W (dr main_arg0) := by
  unfold ops3; after_results_simp
theorem p3_arg1 : after (ops3 (F := F)) W (dr main_arg1) = W (dr main_arg1) := by
  unfold ops3; after_results_simp
theorem p3_v2 : after (ops3 (F := F)) W (dr main_v2) = W (dr main_v2) := by
  unfold ops3; after_results_simp
theorem p3_v5 : after (ops3 (F := F)) W (dr main_v5) = W (dr main_v5) := by
  unfold ops3; after_results_simp
theorem r4_v19 : after (ops4 (F := F)) W (dr main_v19) = (score (W (dr main_v16)) (W (dr main_v5)) : S8x5000.Idx → Elt F .f32) := by
  unfold ops4; after_results_simp; rfl
theorem p4_arg0 : after (ops4 (F := F)) W (dr main_arg0) = W (dr main_arg0) := by
  unfold ops4; after_results_simp
theorem p4_arg1 : after (ops4 (F := F)) W (dr main_arg1) = W (dr main_arg1) := by
  unfold ops4; after_results_simp
theorem p4_v2 : after (ops4 (F := F)) W (dr main_v2) = W (dr main_v2) := by
  unfold ops4; after_results_simp
theorem p4_v5 : after (ops4 (F := F)) W (dr main_v5) = W (dr main_v5) := by
  unfold ops4; after_results_simp
theorem r5_v22 : after (ops5 (F := F)) W (dr main_v22) = (valid (W (dr main_v5)) : S8x5000.Idx → Elt F .i1) := by
  unfold ops5; after_results_simp; rfl
theorem r5_v23 : after (ops5 (F := F)) W (dr main_v23) = (scoreM (W (dr main_v5)) (W (dr main_v19)) : S8x5000.Idx → Elt F .f32) := by
  unfold ops5; after_results_simp; rfl
theorem p5_arg0 : after (ops5 (F := F)) W (dr main_arg0) = W (dr main_arg0) := by
  unfold ops5; after_results_simp
theorem p5_arg1 : after (ops5 (F := F)) W (dr main_arg1) = W (dr main_arg1) := by
  unfold ops5; after_results_simp
theorem p5_v2 : after (ops5 (F := F)) W (dr main_v2) = W (dr main_v2) := by
  unfold ops5; after_results_simp
theorem p5_v5 : after (ops5 (F := F)) W (dr main_v5) = W (dr main_v5) := by
  unfold ops5; after_results_simp
theorem r6_v32 : after (ops6 (F := F)) W (dr main_v32) = (bestR (W (dr main_v5)) (W (dr main_v23)) : S8x1001.Idx → Elt F .f32) := by
  unfold ops6; after_results_simp; rfl
theorem p6_arg0 : after (ops6 (F := F)) W (dr main_arg0) = W (dr main_arg0) := by
  unfold ops6; after_results_simp
theorem p6_arg1 : after (ops6 (F := F)) W (dr main_arg1) = W (dr main_arg1) := by
  unfold ops6; after_results_simp
theorem p6_v2 : after (ops6 (F := F)) W (dr main_v2) = W (dr main_v2) := by
  unfold ops6; after_results_simp
theorem p6_v5 : after (ops6 (F := F)) W (dr main_v5) = W (dr main_v5) := by
  unfold ops6; after_results_simp
theorem p6_v22 : after (ops6 (F := F)) W (dr main_v22) = W (dr main_v22) := by
  unfold ops6; after_results_simp
theorem p6_v23 : after (ops6 (F := F)) W (dr main_v23) = W (dr main_v23) := by
  unfold ops6; after_results_simp
theorem r7_v35 : after (ops7 (F := F)) W (dr main_v35) = (keepR (W (dr main_v22)) (W (dr main_v23)) (W (dr main_v32)) (W (dr main_v5)) : S8x5000.Idx → Elt F .i1) := by
  unfold ops7; after_results_simp; rfl
theorem p7_arg0 : after (ops7 (F := F)) W (dr main_arg0) = W (dr main_arg0) := by
  unfold ops7; after_results_simp
theorem p7_arg1 : after (ops7 (F := F)) W (dr main_arg1) = W (dr main_arg1) := by
  unfold ops7; after_results_simp
theorem p7_v2 : after (ops7 (F := F)) W (dr main_v2) = W (dr main_v2) := by
  unfold ops7; after_results_simp
theorem r8_v46 : after (ops8 (F := F)) W (dr main_v46) = (probs (W (dr main_v2)) : S8x5000x1000.Idx → Elt F .f32) := by
  unfold ops8; after_results_simp; rfl
theorem p8_arg0 : after (ops8 (F := F)) W (dr main_arg0) = W (dr main_arg0) := by
  unfold ops8; after_results_simp
theorem p8_arg1 : after (ops8 (F := F)) W (dr main_arg1) = W (dr main_arg1) := by
  unfold ops8; after_results_simp
theorem p8_v35 : after (ops8 (F := F)) W (dr main_v35) = W (dr main_v35) := by
  unfold ops8; after_results_simp
theorem r9_v50 : after (ops9 (F := F)) W (dr main_v50) = (res (W (dr main_v46)) (W (dr main_v35)) : S8x5000x1000.Idx → Elt F .f32) := by
  unfold ops9; after_results_simp; rfl
theorem p9_arg0 : after (ops9 (F := F)) W (dr main_arg0) = W (dr main_arg0) := by
  unfold ops9; after_results_simp
theorem p9_arg1 : after (ops9 (F := F)) W (dr main_arg1) = W (dr main_arg1) := by
  unfold ops9; after_results_simp

/-- The result array after every operation. -/
theorem value : after (ops (F := F)) W (dr main_v50) = (rOut (F := F) (W (dr main_arg0)) (W (dr main_arg1)) : S8x5000x1000.Idx → Elt F .f32) := by
  unfold ops
  simp only [after_append]
  rw [r9_v50, r8_v46, p8_v35, r7_v35, p7_v2, r6_v32, p6_v22, p6_v23, p6_v5, p6_v2, r5_v22, r5_v23, p5_v5, p5_v2, r4_v19, p4_v5, p4_v2, r3_v16, p3_v5, p3_v2, r2_v5, p2_v4, p2_v2, r1_v4, r1_v2]
  rfl
theorem value_arg0 : after (ops (F := F)) W (dr main_arg0) = W (dr main_arg0) := by
  unfold ops
  simp only [after_append]
  rw [p9_arg0, p8_arg0, p7_arg0, p6_arg0, p5_arg0, p4_arg0, p3_arg0, p2_arg0, p1_arg0]
theorem value_arg1 : after (ops (F := F)) W (dr main_arg1) = W (dr main_arg1) := by
  unfold ops
  simp only [after_append]
  rw [p9_arg1, p8_arg1, p7_arg1, p6_arg1, p5_arg1, p4_arg1, p3_arg1, p2_arg1, p1_arg1]

variable (m : (ℓ : Loc nD τ sig) → Buf (Elt F) ℓ) (ρ : Dev nD → PrngReg)

/-- The run: the result at the reference's function of the arguments, and the arguments as they were. -/
theorem run_main : θ_run (defs (F := F)) (onTc (τ := τ) (main (F := F))) ⟨m, fun _ => 0, ρ⟩ fun r => ∀ c : Dev nD,
    r.2.mem ((c.tc : Thread nD τ).loc main_v50) = (rOut (F := F) (m ((c.tc : Thread nD τ).loc main_arg0)) (m ((c.tc : Thread nD τ).loc main_arg1)) : S8x5000x1000.Idx → Elt F .f32)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run (defs (F := F)) (onTc (τ := τ) (main (F := F))) ⟨m, fun _ => 0, ρ⟩).monotone
    (fun r h c => ⟨(h c main_v50).trans (value (launchContents m c)), (h c main_arg0).trans (value_arg0 (launchContents m c)), (h c main_arg1).trans (value_arg1 (launchContents m c))⟩)
    (run_seq (by decide) (by decide) defs main (fun _ => ops) main_eq (fun _ => ops_sub) m ρ (fun _ => List.forall_iff_forall_mem.mp ops_fresh))

end Cert.Proof.R
-- ==== Proof.MRow.lean ====
/-
  One query's row of masked logits on the extended reals: the greatest entry, the first place it is taken, the sums of
  exponentials, and the score of the predicted class as the kernel and as the reference write it.
-/
module

public import Idealize.ShloMosaic.PureOps.Ideal.Laws
public import Idealize.ShloMosaic.Lib.IdealHost

@[expose] public section

noncomputable section

namespace Cert.Proof.M

open Idealize.ShloMosaic

/-- The greatest entry of the row, and of its vector classes. -/
def mx (x : Fin 1001 → EReal) : EReal := Finset.univ.sup x
def vmx (x : Fin 1001 → EReal) : EReal := (Finset.univ : Finset (Fin 1000)).sup fun k => x k.castSucc
/-- The background entry. -/
def bg (x : Fin 1001 → EReal) : EReal := x (Fin.last 1000)
/-- The sum of the vector classes' exponentials, the background's exponential. -/
def vsum (x : Fin 1001 → EReal) : EReal := ∑ k : Fin 1000, Ideal.exp (x k.castSucc - vmx x)
def bexp (x : Fin 1001 → EReal) : EReal := Ideal.exp (bg x - vmx x)
/-- The score of a row whose greatest entry is a vector class's. -/
def sc (x : Fin 1001 → EReal) : EReal := Ideal.div 1 (vsum x + bexp x)

/-- No entry is the greatest extended real, and the background is a real number. -/
structure Row (x : Fin 1001 → EReal) : Prop where
  bg : ∃ r : ℝ, x (Fin.last 1000) = r
  lt : ∀ k, x k ≠ ⊤

/-- The first place of the greatest entry. -/
def IsPos (x : Fin 1001 → EReal) (n : ℕ) : Prop :=
  ∃ h : n < 1001, x ⟨n, h⟩ = mx x ∧ ∀ k : Fin 1001, x k = mx x → n ≤ k.val

variable {x : Fin 1001 → EReal} {n : ℕ}

theorem IsPos.eq {m : ℕ} (h : IsPos x n) (h' : IsPos x m) : n = m := by
  obtain ⟨a, b, c⟩ := h
  obtain ⟨a', b', c'⟩ := h'
  exact le_antisymm (c _ b') (c' _ b)

theorem le_mx (k : Fin 1001) : x k ≤ mx x := Finset.le_sup (f := x) (Finset.mem_univ k)
theorem le_vmx (k : Fin 1000) : x k.castSucc ≤ vmx x := Finset.le_sup (f := fun k : Fin 1000 => x k.castSucc) (Finset.mem_univ k)
theorem vmx_le : vmx x ≤ mx x := Finset.sup_le fun k _ => le_mx _

theorem exists_mx : ∃ k : Fin 1001, x k = mx x := by
  obtain ⟨k, _, hk⟩ := Finset.exists_mem_eq_sup (Finset.univ : Finset (Fin 1001)) ⟨0, Finset.mem_univ _⟩ x
  exact ⟨k, hk.symm⟩

theorem IsPos.vmx_eq (h : IsPos x n) (hn : n < 1000) : vmx x = mx x := by
  obtain ⟨a, b, _⟩ := h
  exact le_antisymm vmx_le (b ▸ le_vmx (x := x) ⟨n, hn⟩)

theorem IsPos.real (hx : Row x) (h : IsPos x n) (hn : n < 1000) : ∃ r : ℝ, vmx x = r := by
  rw [h.vmx_eq hn]
  obtain ⟨a, b, _⟩ := h
  obtain ⟨r, hr⟩ := hx.bg
  have h1 : mx x ≠ ⊤ := b ▸ hx.lt _
  have h2 : mx x ≠ ⊥ := fun e => by
    have := le_mx (x := x) (Fin.last 1000)
    rw [e, hr, le_bot_iff] at this
    exact EReal.coe_ne_bot r this
  exact ⟨(mx x).toReal, (EReal.coe_toReal h1 h2).symm⟩

/-- An exponential under a real shift is a real number at least zero. -/
theorem exp_real (hx : Row x) (r : ℝ) (k : Fin 1001) : ∃ f : ℝ, 0 ≤ f ∧ Ideal.exp (x k - r) = f := by
  have := hx.lt k
  induction hk : x k using EReal.rec with
  | bot => exact ⟨0, le_rfl, by rw [EReal.bot_sub, Ideal.exp_bot, EReal.coe_zero]⟩
  | top => exact absurd hk this
  | coe y => exact ⟨Real.exp (y - r), (Real.exp_pos _).le, by rw [← EReal.coe_sub, Ideal.exp_coe]⟩

theorem exp_self {y : EReal} (r : ℝ) (h : y = r) : Ideal.exp (y - y) = 1 := by
  rw [h, ← EReal.coe_sub, sub_self, Ideal.exp_coe, Real.exp_zero, EReal.coe_one]

theorem bexp_real (hx : Row x) (h : IsPos x n) (hn : n < 1000) : ∃ e : ℝ, 0 ≤ e ∧ bexp x = e := by
  obtain ⟨r, hr⟩ := h.real hx hn
  unfold bexp bg
  rw [hr]
  exact exp_real hx r _

theorem vsum_real (hx : Row x) (h : IsPos x n) (hn : n < 1000) : ∃ s : ℝ, 1 ≤ s ∧ vsum x = s := by
  obtain ⟨r, hr⟩ := h.real hx hn
  choose f hf0 hf using fun k : Fin 1000 => exp_real hx r k.castSucc
  refine ⟨∑ k, f k, ?_, ?_⟩
  · have e : f ⟨n, hn⟩ = 1 := by
      have h1 := hf ⟨n, hn⟩
      have h2 : x (Fin.castSucc ⟨n, hn⟩) = r := by
        obtain ⟨a, b, c⟩ := h
        rw [← hr, IsPos.vmx_eq ⟨a, b, c⟩ hn]; exact b
      rw [h2, ← EReal.coe_sub, sub_self, Ideal.exp_coe, Real.exp_zero] at h1
      exact (EReal.coe_eq_coe_iff.mp h1).symm
    rw [← e]
    exact Finset.single_le_sum (fun k _ => hf0 k) (Finset.mem_univ _)
  · unfold vsum
    rw [hr, Finset.sum_congr rfl fun k _ => hf k]
    exact (map_sum (⟨⟨((↑) : ℝ → EReal), EReal.coe_zero⟩, EReal.coe_add⟩ : ℝ →+ EReal) f Finset.univ).symm

/-- The kernel's sum over the vector classes: all exponentials less the background's. -/
theorem ksum (hx : Row x) (h : IsPos x n) (hn : n < 1000) :
    (∑ k : Fin 1001, Ideal.exp (x k - vmx x)) - Ideal.exp (bg x - vmx x) = vsum x := by
  obtain ⟨e, _, he⟩ := bexp_real hx h hn
  rw [show (∑ k : Fin 1001, Ideal.exp (x k - vmx x)) = vsum x + bexp x from Fin.sum_univ_castSucc _]
  show vsum x + bexp x - bexp x = vsum x
  rw [he]
  exact EReal.add_sub_cancel_right

theorem kscore (hx : Row x) (h : IsPos x n) (hn : n < 1000) :
    Ideal.div 1 (Ideal.exp (vmx x - mx x) * vsum x + Ideal.exp (bg x - mx x)) = sc x := by
  obtain ⟨r, hr⟩ := h.real hx hn
  rw [← h.vmx_eq hn, exp_self r hr, one_mul]
  rfl

theorem rscore (hx : Row x) (h : IsPos x n) (hn : n < 1000) :
    Ideal.div (Ideal.exp (x ⟨n, by omega⟩ - mx x)) (0 + ∑ k : Fin 1001, Ideal.exp (x k - mx x)) = sc x := by
  obtain ⟨r, hr⟩ := h.real hx hn
  have e : x ⟨n, by omega⟩ = mx x := h.2.1
  rw [e, ← h.vmx_eq hn, exp_self r hr, zero_add,
    show (∑ k : Fin 1001, Ideal.exp (x k - vmx x)) = vsum x + bexp x from Fin.sum_univ_castSucc _]
  rfl

theorem vsum_ne (hx : Row x) (h : IsPos x n) (hn : n < 1000) : vsum x ≠ 0 := by
  obtain ⟨s, hs, e⟩ := vsum_real hx h hn
  rw [e]
  exact fun h0 => by have := EReal.coe_eq_zero.mp h0; linarith

theorem sc_nonneg (hx : Row x) (h : IsPos x n) (hn : n < 1000) : 0 ≤ sc x := by
  obtain ⟨s, hs, e⟩ := vsum_real hx h hn
  obtain ⟨b, hb, e'⟩ := bexp_real hx h hn
  unfold sc Ideal.div
  rw [e, e', ← EReal.coe_add, if_neg (fun h0 => by have := EReal.coe_eq_zero.mp h0; linarith), one_mul]
  exact EReal.inv_nonneg_of_nonneg (EReal.coe_nonneg.mpr (by linarith))

end Cert.Proof.M
-- ==== Proof.MWord.lean ====
/-
  A select on a comparison of words or of extended reals, as a case distinction.
-/
module

public import Idealize.ShloMosaic.PureOps.Ideal.Laws
public import Idealize.ShloMosaic.Lib.WordCmp

@[expose] public section

namespace Cert.Proof.M

open Idealize.ShloMosaic

variable {α : Type}

theorem select_ofBool (p : Prop) [Decidable p] (y z : α) : Scalar.select (BitVec.ofBool (decide p)) y z = if p then y else z := by
  unfold Scalar.select
  by_cases h : p <;> simp [h]

theorem sel_slt (a b : BitVec 32) (ha : a.toNat < 2147483648) (hb : b.toNat < 2147483648) (y z : α) :
    Scalar.select (IntOp.cmpi .slt a b) y z = if a.toNat < b.toNat then y else z := by
  have e : IntOp.cmpi .slt a b = BitVec.ofBool (decide (a.toNat < b.toNat)) := by
    unfold IntOp.cmpi
    dsimp only
    rw [BitVec.slt_eq_decide, BitVec.toInt_eq_toNat_cond, BitVec.toInt_eq_toNat_cond, if_pos (by omega), if_pos (by omega)]
    simp
  rw [e, select_ofBool]

theorem cmpi_eq_iff (a b : BitVec 32) : IntOp.cmpi .eq a b = BitVec.ofBool (decide (a.toNat = b.toNat)) := by
  unfold IntOp.cmpi
  dsimp only
  by_cases h : a = b
  · subst h; simp
  · have : a.toNat ≠ b.toNat := fun e => h (BitVec.eq_of_toNat_eq e)
    rw [show (a == b) = false from beq_eq_false_iff_ne.mpr h, decide_eq_false this]

theorem sel_eq (a b : BitVec 32) (y z : α) : Scalar.select (IntOp.cmpi .eq a b) y z = if a.toNat = b.toNat then y else z := by
  rw [cmpi_eq_iff, select_ofBool]

theorem cmpi_slt_iff (a b : BitVec 32) (ha : a.toNat < 2147483648) (hb : b.toNat < 2147483648) :
    IntOp.cmpi .slt a b = BitVec.ofBool (decide (a.toNat < b.toNat)) := by
  unfold IntOp.cmpi
  dsimp only
  rw [BitVec.slt_eq_decide, BitVec.toInt_eq_toNat_cond, BitVec.toInt_eq_toNat_cond, if_pos (by omega), if_pos (by omega)]
  simp

theorem cmpf_oeq (a b : EReal) : FloatOps.cmpf (F := Ideal) (φ := .f32) .oeq a b = BitVec.ofBool (decide (a = b)) := rfl

theorem sel_oeq (a b : EReal) (y z : α) : Scalar.select (FloatOps.cmpf (F := Ideal) (φ := .f32) .oeq a b) y z = if a = b then y else z := by
  rw [cmpf_oeq, select_ofBool]

end Cert.Proof.M
-- ==== Proof.MKer.lean ====
/-
  What the kernel's payloads hold at a query, in terms of its row of masked logits.
-/
module

public import proofs.«01_k».proof.Proof.PIBound
public import proofs.«01_k».proof.Proof.PIRegB
public import proofs.«01_k».proof.Proof.MRow
public import proofs.«01_k».proof.Proof.MWord
public import Idealize.ShloMosaic.Lib.Pointwise

@[expose] public section

noncomputable section

namespace Cert.Proof.M

open Idealize.ShloMosaic
open Cert.Proof.PI (laneWords laneWords_lt rowLane drop_rowLane pay7_eq fold_minsi)
open Cert.KernelIdeal Cert.KernelIdeal.Gen

theorem ofBits_ninf : Ideal.ofBits .f32 0xFF800000#32 = ⊥ := by simp [Ideal.ofBits, Ideal.ieee]
theorem named_neg : (Named.named κ "neg" 0xF149F2CA#32 : Ideal .f32) = (⊥ : EReal) := rfl

/-- The maximum over the lanes below 1000, and at lane 1000. -/
theorem fold_lt (x : Fin 1001 → EReal) : Finset.fold max (⊥ : EReal) (fun k : Fin 1001 =>
    Scalar.select (IntOp.cmpi CmpIPredicate.slt (BitVec.ofNat 32 k.val) 1000#32) (x k) (⊥ : EReal)) Finset.univ = vmx x := by
  have e : ∀ k : Fin 1001, Scalar.select (IntOp.cmpi CmpIPredicate.slt (BitVec.ofNat 32 k.val) 1000#32) (x k) (⊥ : EReal)
      = if k.val < 1000 then x k else ⊥ := fun k => by
    have := k.isLt
    rw [sel_slt _ _ (by rw [BitVec.toNat_ofNat]; omega) (by decide), BitVec.toNat_ofNat, Nat.mod_eq_of_lt (by omega)]
    rfl
  simp only [e]
  show (Finset.univ : Finset (Fin 1001)).sup (fun k => if k.val < 1000 then x k else ⊥) = _
  refine le_antisymm (Finset.sup_le fun k _ => ?_) (Finset.sup_le fun k _ => ?_)
  · by_cases hk : k.val < 1000
    · rw [if_pos hk]; exact le_vmx (x := x) ⟨k.val, hk⟩
    · rw [if_neg hk]; exact bot_le
  · have := Finset.le_sup (f := fun k : Fin 1001 => if k.val < 1000 then x k else ⊥) (Finset.mem_univ k.castSucc)
    rwa [if_pos (show (k.castSucc).val < 1000 from k.isLt)] at this

theorem fold_eq (x : Fin 1001 → EReal) : Finset.fold max (⊥ : EReal) (fun k : Fin 1001 =>
    Scalar.select (IntOp.cmpi CmpIPredicate.eq (BitVec.ofNat 32 k.val) 1000#32) (x k) (⊥ : EReal)) Finset.univ = bg x := by
  have e : ∀ k : Fin 1001, Scalar.select (IntOp.cmpi CmpIPredicate.eq (BitVec.ofNat 32 k.val) 1000#32) (x k) (⊥ : EReal)
      = if k.val = 1000 then x k else ⊥ := fun k => by
    have := k.isLt
    rw [sel_eq, BitVec.toNat_ofNat, Nat.mod_eq_of_lt (by omega)]
    rfl
  simp only [e]
  show (Finset.univ : Finset (Fin 1001)).sup (fun k => if k.val = 1000 then x k else ⊥) = _
  refine le_antisymm (Finset.sup_le fun k _ => ?_) ?_
  · by_cases hk : k.val = 1000
    · rw [if_pos hk]; exact le_of_eq (congrArg x (Fin.ext hk))
    · rw [if_neg hk]; exact bot_le
  · have := Finset.le_sup (f := fun k : Fin 1001 => if k.val = 1000 then x k else ⊥) (Finset.mem_univ (Fin.last 1000))
    rwa [if_pos (show (Fin.last 1000).val = 1000 from rfl)] at this

variable (R : FVec Ideal S1x1000x1001 .f32) (W : FVec Ideal S1x1x1001 .f32) (q : Fin 1000) (x : Fin 1001 → EReal)

theorem pay5_at (k : Fin 1001) : k0_pay5 (F := Ideal) R W (ix2 q k) = (R (ix3 0 q k) + W (ix3 0 0 k) : EReal) := by
  pointwise [k0_pay5]

variable (hx : ∀ k, (k0_pay5 (F := Ideal) R W (ix2 q k) : EReal) = x k)
include hx

theorem pay6_at : (k0_pay6 (F := Ideal) R W (ix1 q) : EReal) = mx x := by
  pointwise [k0_pay6]
  rw [ofBits_ninf]
  simp only [hx]
  rfl

theorem pay8_at : (k0_pay8 (F := Ideal) R W (ix1 q) : EReal) = vmx x := by
  pointwise [k0_pay8]
  rw [ofBits_ninf]
  simp only [hx]
  exact fold_lt x

theorem pay9_at : (k0_pay9 (F := Ideal) R W (ix1 q) : EReal) = bg x := by
  pointwise [k0_pay9]
  rw [ofBits_ninf]
  simp only [hx]
  exact fold_eq x

theorem pay10_at : (k0_pay10 (F := Ideal) R W (ix1 q) : EReal) = (∑ k : Fin 1001, Ideal.exp (x k - vmx x)) - Ideal.exp (bg x - vmx x) := by
  have e8 := pay8_at R W q x hx
  have e9 := pay9_at R W q x hx
  pointwise [k0_pay10]
  simp only [hx, e8, e9]

theorem pay11_at : (k0_pay11 (F := Ideal) R W (ix1 q) : EReal) = Ideal.div 1 (Ideal.exp (vmx x - mx x) * k0_pay10 (F := Ideal) R W (ix1 q) + Ideal.exp (bg x - mx x)) := by
  have e6 := pay6_at R W q x hx
  have e8 := pay8_at R W q x hx
  have e9 := pay9_at R W q x hx
  pointwise [k0_pay11]
  simp only [e6, e8, e9]

theorem words_at (k : Fin 1001) : (laneWords (F := Ideal) R W (rowLane q.val k.val q.isLt k.isLt)).toNat = if x k = mx x then k.val else 1001 := by
  have e6 := pay6_at R W q x hx
  have e5 := hx k
  have e : laneWords (F := Ideal) R W (ix2 q k) = if x k = mx x then BitVec.ofNat 32 k.val else 1001#32 := by
    rw [← e6, ← e5, ← sel_oeq]
    pointwise [laneWords]
  have e' : rowLane q.val k.val q.isLt k.isLt = (ix2 q k : S1000x1001.Idx) := by
    funext a; match a with | ⟨0, _⟩ => rfl | ⟨1, _⟩ => rfl
  rw [e', e]
  have := k.isLt
  split
  · rw [BitVec.toNat_ofNat]; omega
  · rfl

end Cert.Proof.M
-- ==== Proof.MKerB.lean ====
/-
  The predicted class the kernel computes: the first place of the row's greatest entry.
-/
module

public import proofs.«01_k».proof.Proof.MKer

@[expose] public section

noncomputable section

namespace Cert.Proof.M

open Idealize.ShloMosaic
open Cert.Proof.PI (laneWords laneWords_lt rowLane drop_rowLane pay7_eq fold_minsi)
open Cert.KernelIdeal Cert.KernelIdeal.Gen

theorem at_eq (x : Fin 1001 → EReal) {m n : ℕ} (hm : m < 1001) (hn : n < 1001) (h : m = n) : x ⟨m, hm⟩ = x ⟨n, hn⟩ := by
  subst h; rfl

variable (R : FVec Ideal S1x1000x1001 .f32) (W : FVec Ideal S1x1x1001 .f32) (q : Fin 1000) (x : Fin 1001 → EReal)
variable (hx : ∀ k, (k0_pay5 (F := Ideal) R W (ix2 q k) : EReal) = x k)
include hx

theorem pay7_at : IsPos x (k0_pay7 (F := Ideal) R W (ix1 q)).toNat := by
  have h0 : ∀ i : S1000x1001.Idx, (laneWords (F := Ideal) R W i).toNat < 2147483648 :=
    fun i => Nat.lt_of_le_of_lt (laneWords_lt (F := Ideal) R W i) (show (1001 : ℕ) < 2147483648 by decide)
  obtain ⟨-, h2, h3⟩ := fold_minsi (Finset.univ.filter fun i => reduces_S1000x1001_S1000.drop i = (ix1 q : S1000.Idx))
    (laneWords (F := Ideal) R W) 2147483647#32 (by decide) fun i _ => h0 i
  rw [← pay7_eq] at h2 h3
  have hle : ∀ k : Fin 1001, (k0_pay7 (F := Ideal) R W (ix1 q)).toNat ≤ if x k = mx x then k.val else 1001 := fun k => by
    rw [← words_at R W q x hx k]
    exact h2 _ (Finset.mem_filter.mpr ⟨Finset.mem_univ _, drop_rowLane (ix1 q) k.val k.isLt⟩)
  obtain ⟨k0, hk0⟩ := exists_mx (x := x)
  have hle0 := hle k0
  rw [if_pos hk0] at hle0
  have := k0.isLt
  rcases h3 with h3 | ⟨i, hi, h3⟩
  · rw [h3] at hle0
    exact absurd hle0 (by have : (2147483647#32 : BitVec 32).toNat = 2147483647 := rfl; omega)
  · have hd := (Finset.mem_filter.mp hi).2
    have hi0 : (i 0).val = q.val := by
      exact (Shape.Reduces.drop_apply_val_of_eq reduces_S1000x1001_S1000 i 0 0).symm.trans (congrArg (fun j : S1000.Idx => (j 0).val) hd)
    have e : i = rowLane q.val (i 1).val q.isLt (i 1).isLt := by
      funext a; match a with | ⟨0, _⟩ => exact Fin.ext hi0 | ⟨1, _⟩ => rfl
    have hv := words_at R W q x hx ⟨(i 1).val, (i 1).isLt⟩
    rw [← e, ← h3] at hv
    by_cases hm : x ⟨(i 1).val, (i 1).isLt⟩ = mx x
    · rw [if_pos hm] at hv
      have hlt : (k0_pay7 (F := Ideal) R W (ix1 q)).toNat < 1001 := by omega
      refine ⟨hlt, ?_, fun k hk => ?_⟩
      · exact (at_eq x hlt (i 1).isLt hv).trans hm
      · have := hle k
        rwa [if_pos hk] at this
    · rw [if_neg hm] at hv
      omega

end Cert.Proof.M
-- ==== Proof.MKerC.lean ====
/-
  The kernel's remaining payloads read at a query: its predicted class, its score, its greatest entry, its factor, and
  the value the last region writes.
-/
module

public import proofs.«01_k».proof.Proof.PIRegB
public import proofs.«01_k».proof.Proof.MWord
public import Idealize.ShloMosaic.Lib.Pointwise

@[expose] public section

noncomputable section

namespace Cert.Proof.M

open Idealize.ShloMosaic
open Cert.KernelIdeal Cert.KernelIdeal.Gen

variable {α : Type} (q : Fin 1000)

theorem cast_lane (v : S1000.Idx → α) : shapeCast S1x1x1000 v shapeCasts_S1000_S1x1x1000 (ix3 (0 : Fin 1) (0 : Fin 1) q) = v (ix1 q) :=
  shapeCast_apply _ _ _ (ix1 q : S1000.Idx) (by
    rw [Shape.rowMajor_val_one, Shape.rowMajor_val_three]
    show q.val = (0 * 1 + 0) * 1000 + q.val
    omega)

theorem pay1_at (v : IVec S1000 32) : k0_pay1 v (ix3 (0 : Fin 1) (0 : Fin 1) q) = v (ix1 q) := cast_lane q v

theorem pay2_at (v : IVec S1000 32) (s : FVec Ideal S1000 .f32) (h : (v (ix1 q)).toNat < 2147483648) :
    (k0_pay2 (F := Ideal) v s 1000#32 (ix3 (0 : Fin 1) (0 : Fin 1) q) : EReal) = if (v (ix1 q)).toNat < 1000 then (s (ix1 q) : EReal) else ⊥ := by
  unfold k0_pay2
  refine (cast_lane (α := Ideal .f32) q _).trans ?_
  exact sel_slt (v (ix1 q)) 1000#32 h (by decide) (s (ix1 q) : EReal) ⊥

theorem pay3_at (s : FVec Ideal S1000 .f32) : k0_pay3 (F := Ideal) s (ix3 (0 : Fin 1) (0 : Fin 1) q) = s (ix1 q) := cast_lane q s

theorem ofBits_one : Ideal.ofBits .f32 0x3F800000#32 = 1 := by
  simp [Ideal.ofBits, Ideal.ieee]
  rw [← EReal.coe_mul]
  norm_num

theorem pay4_at (s : FVec Ideal S1000 .f32) : (k0_pay4 (F := Ideal) s (ix3 (0 : Fin 1) (0 : Fin 1) q) : EReal) = Ideal.div 1 (s (ix1 q) : EReal) := by
  unfold k0_pay4
  refine (cast_lane (α := Ideal .f32) q _).trans ?_
  show Ideal.div (Ideal.ofBits .f32 0x3F800000#32) (s (ix1 q)) = _
  rw [ofBits_one]

theorem out_at (R : FVec Ideal S1x1000x1001 .f32) (W : FVec Ideal S1x1x1001 .f32) (u v : FVec Ideal S1x1x1000 .f32) (k : Fin 1000) :
    (k2_pay1 (F := Ideal) R W u v (ix3 (0 : Fin 1) q k) : EReal)
      = Ideal.exp ((k0_pay5 (F := Ideal) R W (ix2 q k.castSucc) : EReal) - (u (ix3 (0 : Fin 1) (0 : Fin 1) q) : EReal)) * (v (ix3 (0 : Fin 1) (0 : Fin 1) q) : EReal) := by
  have eu : ∀ w : FVec Ideal S1x1x1000 .f32, broadcastTo S1000x1000 (shapeCast S1000x1 (shapeCast S1000 w shapeCasts_S1x1x1000_S1000) shapeCasts_S1000_S1000x1) broadcasts_S1000x1_S1000x1000
      (ix2 q k) = w (ix3 (0 : Fin 1) (0 : Fin 1) q) := fun w => by
    refine (broadcastTo_apply _ _ _ (ix2 q (0 : Fin 1) : S1000x1.Idx) fun a => ?_).trans ((shapeCast_apply _ _ _ (ix1 q : S1000.Idx) ?_).trans
      (shapeCast_apply _ _ _ (ix3 (0 : Fin 1) (0 : Fin 1) q : S1x1x1000.Idx) ?_))
    · match a with
      | ⟨0, _⟩ => rfl
      | ⟨1, _⟩ => rfl
    · rw [Shape.rowMajor_val_one, Shape.rowMajor_val_two]
      show q.val = q.val * 1 + 0
      omega
    · rw [Shape.rowMajor_val_one, Shape.rowMajor_val_three]
      show (0 * 1 + 0) * 1000 + q.val = q.val
      omega
  have e5 : extractStridedSlice S1000x1000 ![0, 0] (k0_pay5 (F := Ideal) R W) slices_S1000x1001_o0_0_S1000x1000 (ix2 q k) = k0_pay5 (F := Ideal) R W (ix2 q k.castSucc) :=
    extractStridedSlice_apply _ _ _ _ (ix2 q k.castSucc : S1000x1001.Idx) fun a => by
      match a with
      | ⟨0, _⟩ => exact (Nat.zero_add _).symm
      | ⟨1, _⟩ => exact (Nat.zero_add _).symm
  unfold k2_pay1
  refine (shapeCast_apply _ _ _ (ix2 q k : S1000x1000.Idx) ?_).trans ?_
  · rw [Shape.rowMajor_val_two, Shape.rowMajor_val_three]
    show q.val * 1000 + k.val = (0 * 1000 + q.val) * 1000 + k.val
    omega
  · show Ideal.exp (extractStridedSlice S1000x1000 ![0, 0] (k0_pay5 (F := Ideal) R W) slices_S1000x1001_o0_0_S1000x1000 (ix2 q k)
      - broadcastTo S1000x1000 (shapeCast S1000x1 (shapeCast S1000 u shapeCasts_S1x1x1000_S1000) shapeCasts_S1000_S1000x1) broadcasts_S1000x1_S1000x1000 (ix2 q k) : EReal)
      * broadcastTo S1000x1000 (shapeCast S1000x1 (shapeCast S1000 v shapeCasts_S1x1x1000_S1000) shapeCasts_S1000_S1000x1) broadcasts_S1000x1_S1000x1000 (ix2 q k) = _
    rw [eu, eu, e5]

end Cert.Proof.M
-- ==== Proof.MRefA.lean ====
/-
  The reference's logits, softmax over all classes and softmax over the vector classes, read at a query and a class.
-/
module

public import proofs.«01_k».proof.Proof.RRun
public import proofs.«01_k».proof.Proof.MRow
public import Idealize.ShloMosaic.Lib.Pointwise

@[expose] public section

noncomputable section

namespace Cert.Proof.M

open Idealize.ShloMosaic
open Cert.ReferenceIdeal Cert.ReferenceIdeal.Gen
open Cert.Proof.R

theorem ofBits_ninf' : Ideal.ofBits .f32 0xFF800000#32 = ⊥ := by simp [Ideal.ofBits, Ideal.ieee]
theorem ofBits_zero' : Ideal.ofBits .f32 0x00000000#32 = 0 := by simp [Ideal.ofBits, Ideal.ieee]

/-- The masked row of a query: a vector class's logit where its mask bit is set, minus infinity where it is not, and
    the background's logit. -/
def X (a : FVec Ideal S8x5000x1001 .f32) (b : IVec S8x1000 1) (B : Fin 8) (q : Fin 5000) : Fin 1001 → EReal := fun k =>
  if h : k.val < 1000 then (if b (ix2 B ⟨k.val, h⟩) = 1#1 then (a (ix3 B q k) : EReal) else ⊥) else (a (ix3 B q k) : EReal)

variable (a : FVec Ideal S8x5000x1001 .f32) (b : IVec S8x1000 1) (B : Fin 8) (q : Fin 5000)

theorem vecL_at (k : Fin 1000) : (vecL (F := Ideal) a b (ix3 B q k) : EReal) = X a b B q k.castSucc := by
  pointwise [vecL]
  unfold X
  rw [dif_pos (show (k.castSucc).val < 1000 from k.isLt), ofBits_ninf']
  rfl

theorem allL_at (v : FVec Ideal S8x5000x1000 .f32) (hv : ∀ k : Fin 1000, (v (ix3 B q k) : EReal) = X a b B q k.castSucc) (k : Fin 1001) :
    (allL (F := Ideal) a v (ix3 B q k) : EReal) = X a b B q k := by
  pointwise [allL]
  by_cases h : k.val < 1000
  · rw [dif_pos h]
    exact hv ⟨k.val, h⟩
  · rw [dif_neg h]
    unfold X
    rw [dif_neg h]
    refine congrArg a ?_
    funext c
    match c with
    | ⟨0, _⟩ => rfl
    | ⟨1, _⟩ => rfl
    | ⟨2, _⟩ => exact Fin.ext (show 1000 + (k.val - 1000) = k.val by omega)

/-! ## A row's greatest entry, its exponentials, their sum -/

theorem red1001 : S8x5000x1001.Reduces [2] S8x5000 := by decide
theorem red1000 : S8x5000x1000.Reduces [2] S8x5000 := by decide

theorem lift1001 (k : Fin 1001) : red1001.lift (ix2 B q : S8x5000.Idx) k = (ix3 B q k : S8x5000x1001.Idx) := by
  funext c
  match c with
  | ⟨0, _⟩ => rfl
  | ⟨1, _⟩ => rfl
  | ⟨2, _⟩ => rfl
theorem lift1000 (k : Fin 1000) : red1000.lift (ix2 B q : S8x5000.Idx) k = (ix3 B q k : S8x5000x1000.Idx) := by
  funext c
  match c with
  | ⟨0, _⟩ => rfl
  | ⟨1, _⟩ => rfl
  | ⟨2, _⟩ => rfl

theorem max1001 (x : FVec Ideal S8x5000x1001 .f32) : (Host.reduce (FloatOps.maximumf (F := Ideal) (φ := .f32)) x (constant (F := Ideal) S_ .f32 0xFF800000#32)
      reducesTo_S8x5000x1001_S8x5000_d2 h_S_ (ix2 B q : S8x5000.Idx) : EReal)
    = (Finset.univ : Finset (Fin 1001)).sup fun k => (x (ix3 B q k) : EReal) := by
  refine (Host.reduce_eq_fold_single (max : EReal → EReal → EReal) x _ reducesTo_S8x5000x1001_S8x5000_d2 red1001 h_S_ (ix2 B q)).trans ?_
  have e : (constant (F := Ideal) S_ .f32 0xFF800000#32 (Shape.Idx.first h_S_) : EReal) = ⊥ := ofBits_ninf'
  rw [e]
  refine congrArg (Finset.fold (max : EReal → EReal → EReal) ⊥ · Finset.univ) (funext fun k => ?_)
  exact congrArg x (lift1001 B q k)

theorem max1000 (x : FVec Ideal S8x5000x1000 .f32) : (Host.reduce (FloatOps.maximumf (F := Ideal) (φ := .f32)) x (constant (F := Ideal) S_ .f32 0xFF800000#32)
      reducesTo_S8x5000x1000_S8x5000_d2 h_S_ (ix2 B q : S8x5000.Idx) : EReal)
    = (Finset.univ : Finset (Fin 1000)).sup fun k => (x (ix3 B q k) : EReal) := by
  refine (Host.reduce_eq_fold_single (max : EReal → EReal → EReal) x _ reducesTo_S8x5000x1000_S8x5000_d2 red1000 h_S_ (ix2 B q)).trans ?_
  have e : (constant (F := Ideal) S_ .f32 0xFF800000#32 (Shape.Idx.first h_S_) : EReal) = ⊥ := ofBits_ninf'
  rw [e]
  refine congrArg (Finset.fold (max : EReal → EReal → EReal) ⊥ · Finset.univ) (funext fun k => ?_)
  exact congrArg x (lift1000 B q k)

theorem sum1001 (x : FVec Ideal S8x5000x1001 .f32) : (Host.reduceAdd (F := Ideal) x (constant (F := Ideal) S_ .f32 0x00000000#32)
      reducesTo_S8x5000x1001_S8x5000_d2 h_S_ (ix2 B q : S8x5000.Idx) : EReal)
    = 0 + ∑ k : Fin 1001, (x (ix3 B q k) : EReal) := by
  refine (Ideal.hostReduceAdd_single reducesTo_S8x5000x1001_S8x5000_d2 red1001 x _ (ix2 B q)).trans ?_
  have e : (constant (F := Ideal) S_ .f32 0x00000000#32 (Shape.Idx.first h_S_) : EReal) = 0 := ofBits_zero'
  rw [e]
  refine congrArg (0 + ·) (Finset.sum_congr rfl fun k _ => ?_)
  exact congrArg x (lift1001 B q k)

theorem sum1000 (x : FVec Ideal S8x5000x1000 .f32) : (Host.reduceAdd (F := Ideal) x (constant (F := Ideal) S_ .f32 0x00000000#32)
      reducesTo_S8x5000x1000_S8x5000_d2 h_S_ (ix2 B q : S8x5000.Idx) : EReal)
    = 0 + ∑ k : Fin 1000, (x (ix3 B q k) : EReal) := by
  refine (Ideal.hostReduceAdd_single reducesTo_S8x5000x1000_S8x5000_d2 red1000 x _ (ix2 B q)).trans ?_
  have e : (constant (F := Ideal) S_ .f32 0x00000000#32 (Shape.Idx.first h_S_) : EReal) = 0 := ofBits_zero'
  rw [e]
  refine congrArg (0 + ·) (Finset.sum_congr rfl fun k _ => ?_)
  exact congrArg x (lift1000 B q k)

variable {α : Type}

theorem spread1001 (m : S8x5000.Idx → α) (k : Fin 1001) :
    broadcastInDim S8x5000x1001 ![0, 1, 2] bcast_S8x5000x1_S8x5000x1001_0_1_2 (broadcastInDim S8x5000x1 ![0, 1] bcast_S8x5000_S8x5000x1_0_1 m) (ix3 B q k)
      = m (ix2 B q) := by
  refine (broadcastInDim_apply _ _ _ _ (ix3 B q (0 : Fin 1) : S8x5000x1.Idx) fun c => ?_).trans (broadcastInDim_apply _ _ _ _ (ix2 B q) fun c => ?_)
  · match c with
    | ⟨0, _⟩ => rfl
    | ⟨1, _⟩ => rfl
    | ⟨2, _⟩ => rfl
  · match c with
    | ⟨0, _⟩ => rfl
    | ⟨1, _⟩ => rfl

theorem spread1000 (m : S8x5000.Idx → α) (k : Fin 1000) :
    broadcastInDim S8x5000x1000 ![0, 1, 2] bcast_S8x5000x1_S8x5000x1000_0_1_2 (broadcastInDim S8x5000x1 ![0, 1] bcast_S8x5000_S8x5000x1_0_1 m) (ix3 B q k)
      = m (ix2 B q) := by
  refine (broadcastInDim_apply _ _ _ _ (ix3 B q (0 : Fin 1) : S8x5000x1.Idx) fun c => ?_).trans (broadcastInDim_apply _ _ _ _ (ix2 B q) fun c => ?_)
  · match c with
    | ⟨0, _⟩ => rfl
    | ⟨1, _⟩ => rfl
    | ⟨2, _⟩ => rfl
  · match c with
    | ⟨0, _⟩ => rfl
    | ⟨1, _⟩ => rfl

theorem max_ninf (m : FVec Ideal S8x5000 .f32) (j : S8x5000.Idx) :
    (maximumf (broadcastInDim S8x5000 ![] bcast_S_S8x5000 (constant (F := Ideal) S_ .f32 0xFF800000#32)) m j : EReal) = m j := by
  show max (Ideal.ofBits .f32 0xFF800000#32) (m j) = m j
  rw [ofBits_ninf']
  exact max_eq_right bot_le

theorem exp_sub1001 (x y : FVec Ideal S8x5000x1001 .f32) (j : S8x5000x1001.Idx) :
    (Host.exp (F := Ideal) (subf x y) j : EReal) = Ideal.exp ((x j : EReal) - (y j : EReal)) := rfl
theorem exp_sub1000 (x y : FVec Ideal S8x5000x1000 .f32) (j : S8x5000x1000.Idx) :
    (Host.exp (F := Ideal) (subf x y) j : EReal) = Ideal.exp ((x j : EReal) - (y j : EReal)) := rfl
theorem div1001 (x y : FVec Ideal S8x5000x1001 .f32) (j : S8x5000x1001.Idx) :
    (Host.divf (F := Ideal) x y j : EReal) = Ideal.div (x j : EReal) (y j : EReal) := rfl
theorem div1000 (x y : FVec Ideal S8x5000x1000 .f32) (j : S8x5000x1000.Idx) :
    (Host.divf (F := Ideal) x y j : EReal) = Ideal.div (x j : EReal) (y j : EReal) := rfl

theorem softExp_at (p : FVec Ideal S8x5000x1001 .f32) (x : Fin 1001 → EReal) (hx : ∀ k, (p (ix3 B q k) : EReal) = x k) (k : Fin 1001) :
    (softExp (F := Ideal) p (ix3 B q k) : EReal) = Ideal.exp (x k - mx x) := by
  unfold softExp
  rw [exp_sub1001, spread1001, max_ninf, max1001, hx]
  simp only [hx]
  rfl

theorem soft_at (p : FVec Ideal S8x5000x1001 .f32) (x : Fin 1001 → EReal) (hx : ∀ k, (p (ix3 B q k) : EReal) = x k) (k : Fin 1001) :
    (soft (F := Ideal) p (ix3 B q k) : EReal) = Ideal.div (Ideal.exp (x k - mx x)) (0 + ∑ k, Ideal.exp (x k - mx x)) := by
  unfold soft
  rw [div1001, spread1001, sum1001]
  simp only [softExp_at B q p x hx]

theorem probExp_at (p : FVec Ideal S8x5000x1000 .f32) (x : Fin 1001 → EReal) (hx : ∀ k : Fin 1000, (p (ix3 B q k) : EReal) = x k.castSucc) (k : Fin 1000) :
    (probExp (F := Ideal) p (ix3 B q k) : EReal) = Ideal.exp (x k.castSucc - vmx x) := by
  unfold probExp
  rw [exp_sub1000, spread1000, max_ninf, max1000, hx]
  simp only [hx]
  rfl

theorem probs_at (p : FVec Ideal S8x5000x1000 .f32) (x : Fin 1001 → EReal) (hx : ∀ k : Fin 1000, (p (ix3 B q k) : EReal) = x k.castSucc) (k : Fin 1000) :
    (probs (F := Ideal) p (ix3 B q k) : EReal) = Ideal.div (Ideal.exp (x k.castSucc - vmx x)) (0 + vsum x) := by
  unfold probs
  rw [div1000, spread1000, sum1000]
  simp only [probExp_at B q p x hx]
  rfl

end Cert.Proof.M
-- ==== Proof.MRefB.lean ====
/-
  The reference's predicted class: the first place of a row's greatest entry.
-/
module

public import proofs.«01_k».proof.Proof.RRun
public import proofs.«01_k».proof.Proof.MRow
public import proofs.«01_k».proof.Proof.MWord
public import Idealize.ShloMosaic.Lib.Pointwise

@[expose] public section

noncomputable section

namespace Cert.Proof.M

open Idealize.ShloMosaic
open Cert.ReferenceIdeal Cert.ReferenceIdeal.Gen
open Cert.Proof.R

/-- Whether the first of two pairs of a value and an index comes before the second. -/
def Before (a b : EReal × BitVec 32) : Prop := b.1 < a.1 ∨ (a.1 = b.1 ∧ a.2.toNat < b.2.toNat)

theorem argmax_step (a b : EReal × BitVec 32) (ha : a.2.toNat < 2147483648) (hb : b.2.toNat < 2147483648) :
    (Before a b ∧ reducer_argmax_f32_i32 (F := Ideal) a b = a) ∨ (¬ Before a b ∧ reducer_argmax_f32_i32 (F := Ideal) a b = b) := by
  obtain ⟨a1, a2⟩ := a
  obtain ⟨b1, b2⟩ := b
  have e1 : FloatOps.cmpf (F := Ideal) (φ := .f32) .ogt a1 b1 = BitVec.ofBool (decide (b1 < a1)) := rfl
  have e2 : FloatOps.cmpf (F := Ideal) (φ := .f32) .une a1 a1 = 0#1 := by
    show BitVec.ofBool (decide (a1 ≠ a1)) = 0#1
    simp
  have e3 : FloatOps.cmpf (F := Ideal) (φ := .f32) .oeq a1 b1 = BitVec.ofBool (decide (a1 = b1)) := rfl
  have e4 := cmpi_slt_iff a2 b2 ha hb
  unfold Before reducer_argmax_f32_i32
  dsimp only
  rw [e1, e2, e3, e4]
  unfold Scalar.select IntOp.ori IntOp.andi
  rcases lt_trichotomy b1 a1 with h | h | h
  · left
    refine ⟨Or.inl h, ?_⟩
    have h' : a1 ≠ b1 := ne_of_gt h
    simp [h, h']
  · subst h
    by_cases h2 : a2.toNat < b2.toNat
    · left; exact ⟨Or.inr ⟨rfl, h2⟩, by simp [h2]⟩
    · right; exact ⟨by simp [h2], by simp [h2]⟩
  · right
    have h' : a1 ≠ b1 := ne_of_lt h
    have h'' : ¬ b1 < a1 := not_lt_of_gt h
    exact ⟨by simp [h', h''], by simp [h', h'']⟩

theorem fold_argmax (l : List (EReal × BitVec 32)) : ∀ a : EReal × BitVec 32, (∀ p ∈ a :: l, p.2.toNat < 2147483648) →
    l.foldl (reducer_argmax_f32_i32 (F := Ideal)) a ∈ a :: l ∧ ∀ p ∈ a :: l, ¬ Before p (l.foldl (reducer_argmax_f32_i32 (F := Ideal)) a) := by
  have irrefl : ∀ p, ¬ Before p p := fun p h => by
    rcases h with h | h
    · exact lt_irrefl _ h
    · exact lt_irrefl _ h.2
  have trans : ∀ p q r, ¬ Before p q → ¬ Before q r → ¬ Before p r := by
    rintro ⟨p1, p2⟩ ⟨q1, q2⟩ ⟨r1, r2⟩ h1 h2 h3
    unfold Before at *
    simp only [not_or, not_and, not_lt] at h1 h2
    rcases h3 with h3 | ⟨h3, h4⟩
    · exact absurd h3 (not_lt.mpr (h1.1.trans h2.1))
    · have e : p1 = q1 := le_antisymm h1.1 (by dsimp only at h3; rw [h3]; exact h2.1)
      have e' : q1 = r1 := e ▸ h3
      have := h1.2 e
      have := h2.2 e'
      dsimp only at *
      omega
  have asym : ∀ p q, Before p q → ¬ Before q p := by
    rintro ⟨p1, p2⟩ ⟨q1, q2⟩ h1 h2
    unfold Before at *
    dsimp only at *
    rcases h1 with h1 | ⟨h1, h1'⟩ <;> rcases h2 with h2 | ⟨h2, h2'⟩
    · exact lt_asymm h1 h2
    · exact absurd h2 (ne_of_lt h1)
    · exact absurd h1 (ne_of_lt h2)
    · omega
  induction l with
  | nil => intro a _; exact ⟨List.mem_cons_self, fun p hp => by rw [List.mem_singleton.mp hp]; exact irrefl a⟩
  | cons c l ih =>
    intro a h
    have ha := h a List.mem_cons_self
    have hc := h c (List.mem_cons_of_mem _ List.mem_cons_self)
    rw [List.foldl_cons]
    rcases argmax_step a c ha hc with ⟨hb, e⟩ | ⟨hb, e⟩
    · rw [e]
      obtain ⟨i1, i2⟩ := ih a fun p hp => h p (by
        rcases List.mem_cons.mp hp with hp | hp
        · exact hp ▸ List.mem_cons_self
        · exact List.mem_cons_of_mem _ (List.mem_cons_of_mem _ hp))
      refine ⟨?_, fun p hp => ?_⟩
      · rcases List.mem_cons.mp i1 with hp | hp
        · rw [hp]; exact List.mem_cons_self
        · exact List.mem_cons_of_mem _ (List.mem_cons_of_mem _ hp)
      · rcases List.mem_cons.mp hp with hp | hp
        · exact hp ▸ i2 a List.mem_cons_self
        · rcases List.mem_cons.mp hp with hp | hp
          · subst hp
            exact trans _ _ _ (asym _ _ hb) (i2 a List.mem_cons_self)
          · exact i2 p (List.mem_cons_of_mem _ hp)
    · rw [e]
      obtain ⟨i1, i2⟩ := ih c fun p hp => h p (List.mem_cons_of_mem _ hp)
      refine ⟨List.mem_cons_of_mem _ i1, fun p hp => ?_⟩
      rcases List.mem_cons.mp hp with hp | hp
      · exact hp ▸ trans _ _ _ hb (i2 c List.mem_cons_self)
      · exact i2 p hp

/-- An arg-maximum whose start is minus infinity: the start or one of the entries, and no entry comes before it. -/
theorem argmax_spec {s t u : Shape} {axes : List (Fin s.rank)} (p : FVec Ideal s .f32) (y : IVec s 32) (ix : FVec Ideal u .f32) (iy : IVec u 32)
    (h : s.ReducesTo axes t) (hu : 0 < u.numel) (j : t.Idx) (e0 : (ix (Shape.Idx.first hu) : EReal) = ⊥) (e1 : iy (Shape.Idx.first hu) = 0#32)
    (hy : ∀ i, (y i).toNat < 2147483648) :
    (Host.argReduce (F := Ideal) (φ := .f32) (reducer_argmax_f32_i32 (F := Ideal)) p y ix iy h hu j = ((⊥ : EReal), 0#32)
        ∨ ∃ i, h.drop i = j ∧ Host.argReduce (F := Ideal) (φ := .f32) (reducer_argmax_f32_i32 (F := Ideal)) p y ix iy h hu j = (p i, y i))
      ∧ ∀ i, h.drop i = j → ¬ Before (p i, y i) (Host.argReduce (F := Ideal) (φ := .f32) (reducer_argmax_f32_i32 (F := Ideal)) p y ix iy h hu j) := by
  rw [Ideal.argReduce_eq_reduce2, Host.reduce2_eq_foldl_fiber, e1,
    show ix (Shape.Idx.first hu) = (⊥ : EReal) from e0]
  have hm : ∀ e : Ideal .f32 × BitVec 32, e ∈ Host.argReduceFiber p y h j ↔ ∃ i, h.drop i = j ∧ e = (p i, y i) := fun e => by
    unfold Host.argReduceFiber
    rw [List.mem_map]
    constructor
    · rintro ⟨n, hn, rfl⟩
      exact ⟨_, of_decide_eq_true (List.mem_filter.mp hn).2, rfl⟩
    · rintro ⟨i, hi, rfl⟩
      refine ⟨s.rowMajor i, List.mem_filter.mpr ⟨List.mem_finRange _, decide_eq_true ?_⟩, ?_⟩
      · rw [Equiv.symm_apply_apply]; exact hi
      · rw [Equiv.symm_apply_apply]
  generalize Host.argReduceFiber p y h j = l at hm
  obtain ⟨f1, f2⟩ := fold_argmax l ((⊥ : EReal), 0#32) fun e he => by
    rcases List.mem_cons.mp he with rfl | he
    · decide
    · obtain ⟨i, -, rfl⟩ := (hm e).mp he
      exact hy i
  refine ⟨?_, fun i hi => f2 _ (List.mem_cons_of_mem _ ((hm _).mpr ⟨i, hi, rfl⟩))⟩
  rcases List.mem_cons.mp f1 with e | h
  · exact Or.inl e
  · exact Or.inr ((hm _).mp h)

/-- The first place of a row's greatest entry, from the two facts an arg-maximum has. -/
theorem isPos_of (x : Fin 1001 → EReal) (hr : Row x) (r : EReal × BitVec 32) (f1 : r = (⊥, 0#32) ∨ ∃ k : Fin 1001, r = (x k, BitVec.ofNat 32 k.val))
    (hk : ∀ k : Fin 1001, ¬ Before (x k, BitVec.ofNat 32 k.val) r) : IsPos x r.2.toNat := by
  have hv : ∀ k : Fin 1001, (BitVec.ofNat 32 k.val).toNat = k.val := fun k => by have := k.isLt; rw [BitVec.toNat_ofNat]; omega
  have hle : ∀ k, x k ≤ r.1 := fun k => not_lt.mp fun h => hk k (Or.inl h)
  obtain ⟨k, rfl⟩ : ∃ k : Fin 1001, r = (x k, BitVec.ofNat 32 k.val) := by
    rcases f1 with e | h
    · obtain ⟨v, hv⟩ := hr.bg
      have := hle (Fin.last 1000)
      rw [e, hv] at this
      exact absurd (le_bot_iff.mp this) (EReal.coe_ne_bot v)
    · exact h
  have em : x k = mx x := le_antisymm (le_mx k) (Finset.sup_le fun j _ => hle j)
  refine ⟨by rw [hv]; exact k.isLt, ?_, fun j hj => ?_⟩
  · rw [← em]; exact congrArg x (Fin.ext (hv k))
  · have := hk j
    unfold Before at this
    simp only [not_or, not_and, not_lt, hv] at this
    show (BitVec.ofNat 32 k.val).toNat ≤ _
    rw [hv]
    exact this.2 (hj.trans em.symm)

end Cert.Proof.M
-- ==== Proof.MRefC.lean ====
/-
  The reference's predicted class at a query: the first place of a row's greatest entry.
-/
module

public import proofs.«01_k».proof.Proof.MRefB
public import Idealize.ShloMosaic.Lib.Pointwise

@[expose] public section

noncomputable section

namespace Cert.Proof.M

open Idealize.ShloMosaic
open Cert.ReferenceIdeal Cert.ReferenceIdeal.Gen
open Cert.Proof.R

variable (B : Fin 8) (q : Fin 5000)

theorem redArg : S8x5000x1001.Reduces [2] S8x5000 := by decide

theorem dropArg (i : S8x5000x1001.Idx) : reducesTo_S8x5000x1001_S8x5000_d2.drop i = (ix2 B q : S8x5000.Idx) ↔ ∃ k : Fin 1001, i = ix3 B q k := by
  rw [Shape.ReducesTo.drop_eq_drop reducesTo_S8x5000x1001_S8x5000_d2 redArg]
  have h0 : (redArg.drop i 0).val = (i 0).val := Shape.Reduces.drop_apply_val_of_eq redArg i 0 0
  have h1 : (redArg.drop i 1).val = (i 1).val := Shape.Reduces.drop_apply_val_of_eq redArg i 1 1
  constructor
  · intro h
    rw [h] at h0 h1
    refine ⟨i 2, ?_⟩
    funext c
    match c with
    | ⟨0, _⟩ => exact Fin.ext h0.symm
    | ⟨1, _⟩ => exact Fin.ext h1.symm
    | ⟨2, _⟩ => rfl
  · rintro ⟨k, rfl⟩
    funext c
    match c with
    | ⟨0, _⟩ => exact Fin.ext h0
    | ⟨1, _⟩ => exact Fin.ext h1

theorem iota_at (k : Fin 1001) : iotaInDim S8x5000x1001 32 2 (ix3 B q k) = BitVec.ofNat 32 k.val := rfl
theorem iota_lt (i : S8x5000x1001.Idx) : (iotaInDim S8x5000x1001 32 2 i).toNat < 2147483648 := by
  show (BitVec.ofNat 32 (i 2).val).toNat < _
  have : (i 2).val < 1001 := (i 2).isLt
  rw [BitVec.toNat_ofNat]; omega
theorem start_at (i : S_.Idx) : (constant (F := Ideal) S_ .f32 0xFF800000#32 i : EReal) = ⊥ := by
  show Ideal.ofBits .f32 0xFF800000#32 = ⊥
  simp [Ideal.ofBits, Ideal.ieee]

/-- The same of the second components. -/
theorem argmax_snd {s t u : Shape} {axes : List (Fin s.rank)} {p : FVec Ideal s .f32} {y : IVec s 32} {ix : FVec Ideal u .f32} {iy : IVec u 32}
    {h : s.ReducesTo axes t} {hu : 0 < u.numel} (c : IVec t 32)
    (hc : c = fun j => (Host.argReduce (F := Ideal) (φ := .f32) (reducer_argmax_f32_i32 (F := Ideal)) p y ix iy h hu j).2) (j : t.Idx)
    (e0 : (ix (Shape.Idx.first hu) : EReal) = ⊥) (e1 : iy (Shape.Idx.first hu) = 0#32) (hy : ∀ i, (y i).toNat < 2147483648) :
    ∃ r : EReal × BitVec 32, c j = r.2 ∧ (r = ((⊥ : EReal), 0#32) ∨ ∃ i, h.drop i = j ∧ r = (p i, y i)) ∧ ∀ i, h.drop i = j → ¬ Before (p i, y i) r := by
  subst hc
  exact ⟨_, rfl, argmax_spec p y ix iy h hu j e0 e1 hy⟩

theorem cls_spec (p : FVec Ideal S8x5000x1001 .f32) (j : S8x5000.Idx) : ∃ r : EReal × BitVec 32, cls (F := Ideal) p j = r.2
    ∧ (r = ((⊥ : EReal), 0#32) ∨ ∃ i, reducesTo_S8x5000x1001_S8x5000_d2.drop i = j ∧ r = (p i, iotaInDim S8x5000x1001 32 2 i))
    ∧ ∀ i, reducesTo_S8x5000x1001_S8x5000_d2.drop i = j → ¬ Before (p i, iotaInDim S8x5000x1001 32 2 i) r :=
  argmax_snd (cls (F := Ideal) p) rfl j (start_at _) rfl iota_lt

theorem cls_at (p : FVec Ideal S8x5000x1001 .f32) (x : Fin 1001 → EReal) (hx : ∀ k, (p (ix3 B q k) : EReal) = x k) (hr : Row x) :
    IsPos x (cls (F := Ideal) p (ix2 B q)).toNat := by
  obtain ⟨r, e, f1, f2⟩ := cls_spec p (ix2 B q)
  rw [e]
  refine isPos_of x hr r ?_ fun k => ?_
  · rcases f1 with e | ⟨i, hi, e⟩
    · exact Or.inl e
    · obtain ⟨k, rfl⟩ := (dropArg B q i).mp hi
      exact Or.inr ⟨k, by rw [e, iota_at, hx]⟩
  · have h := f2 (ix3 B q k) ((dropArg B q _).mpr ⟨k, rfl⟩)
    rwa [iota_at, hx] at h

end Cert.Proof.M
-- ==== Proof.MRefD.lean ====
/-
  The reference's result at a query and a class: the softmax over the vector classes where the query is its class's best.
-/
module

public import proofs.«01_k».proof.Proof.MRefA
public import proofs.«01_k».proof.Proof.MRefC

@[expose] public section

noncomputable section

namespace Cert.Proof.M

open Idealize.ShloMosaic
open Cert.ReferenceIdeal Cert.ReferenceIdeal.Gen
open Cert.Proof.R

/-- The least score the reference writes for a query it does not compare. -/
def fill : EReal := Ideal.ofBits .f32 0xF149F2CA#32
theorem fill_le : fill ≤ 0 := by
  unfold fill
  simp [Ideal.ofBits, Ideal.ieee]
  norm_cast

variable (B : Fin 8) (q : Fin 5000)

/-! ## The two gathers -/

theorem gather3 (s : FVec Ideal S8x5000x1001 .f32) (idx : IVec S8x5000x1x1 32) (n : ℕ) (hn : n < 1001)
    (h : (idx (ix4 B q (0 : Fin 1) (0 : Fin 1))).toInt.toNat = n) :
    Host.gather gather_S8x5000x1001_S8x5000x1x1_S8x5000x1_n_2_01_01_2_3_111 s idx (ix3 B q (0 : Fin 1)) = s (ix3 B q ⟨n, hn⟩) := by
  unfold Host.gather
  refine congrArg s (funext fun a => Fin.ext ?_)
  show gather_S8x5000x1001_S8x5000x1x1_S8x5000x1_n_2_01_01_2_3_111.start (ix3 B q (0 : Fin 1)) idx a
    + gather_S8x5000x1001_S8x5000x1x1_S8x5000x1_n_2_01_01_2_3_111.batchCoord (ix3 B q (0 : Fin 1)) a
    + gather_S8x5000x1001_S8x5000x1x1_S8x5000x1_n_2_01_01_2_3_111.offCoord (ix3 B q (0 : Fin 1)) a = _
  have h0 : gather_S8x5000x1001_S8x5000x1x1_S8x5000x1_n_2_01_01_2_3_111.start (ix3 B q (0 : Fin 1)) idx (0 : Fin 3) + gather_S8x5000x1001_S8x5000x1x1_S8x5000x1_n_2_01_01_2_3_111.batchCoord (ix3 B q (0 : Fin 1)) (0 : Fin 3) + gather_S8x5000x1001_S8x5000x1x1_S8x5000x1_n_2_01_01_2_3_111.offCoord (ix3 B q (0 : Fin 1)) (0 : Fin 3) = B.val := by
    rw [GatherDims.start_batching _ _ _ _ List.mem_cons_self,
      GatherDims.offCoord_eq_zero _ _ _ (fun h => ((GatherDims.mem_sKept _ _).mp h).2 List.mem_cons_self)]
    simp only [Nat.zero_add, Nat.add_zero]
    unfold GatherDims.batchCoord
    rw [dif_pos (show (0 : Fin 3) ∈ gather_S8x5000x1001_S8x5000x1x1_S8x5000x1_n_2_01_01_2_3_111.operandBatchingDims from List.mem_cons_self)]
    rfl
  have h1 : gather_S8x5000x1001_S8x5000x1x1_S8x5000x1_n_2_01_01_2_3_111.start (ix3 B q (0 : Fin 1)) idx (1 : Fin 3) + gather_S8x5000x1001_S8x5000x1x1_S8x5000x1_n_2_01_01_2_3_111.batchCoord (ix3 B q (0 : Fin 1)) (1 : Fin 3) + gather_S8x5000x1001_S8x5000x1x1_S8x5000x1_n_2_01_01_2_3_111.offCoord (ix3 B q (0 : Fin 1)) (1 : Fin 3) = q.val := by
    rw [GatherDims.start_batching _ _ _ _ (List.mem_cons_of_mem _ List.mem_cons_self),
      GatherDims.offCoord_eq_zero _ _ _ (fun h => ((GatherDims.mem_sKept _ _).mp h).2 (List.mem_cons_of_mem _ List.mem_cons_self))]
    simp only [Nat.zero_add, Nat.add_zero]
    unfold GatherDims.batchCoord
    rw [dif_pos (show (1 : Fin 3) ∈ gather_S8x5000x1001_S8x5000x1x1_S8x5000x1_n_2_01_01_2_3_111.operandBatchingDims from List.mem_cons_of_mem _ List.mem_cons_self)]
    rfl
  have h2 : gather_S8x5000x1001_S8x5000x1x1_S8x5000x1_n_2_01_01_2_3_111.start (ix3 B q (0 : Fin 1)) idx (2 : Fin 3) + gather_S8x5000x1001_S8x5000x1x1_S8x5000x1_n_2_01_01_2_3_111.batchCoord (ix3 B q (0 : Fin 1)) (2 : Fin 3) + gather_S8x5000x1001_S8x5000x1x1_S8x5000x1_n_2_01_01_2_3_111.offCoord (ix3 B q (0 : Fin 1)) (2 : Fin 3) = n := by
    rw [GatherDims.batchCoord_eq_zero _ _ _ (show (2 : Fin 3) ∉ gather_S8x5000x1001_S8x5000x1x1_S8x5000x1_n_2_01_01_2_3_111.operandBatchingDims by decide),
      GatherDims.offCoord_eq_zero _ _ _ (fun h => ((GatherDims.mem_sKept _ _).mp h).1 List.mem_cons_self)]
    simp only [Nat.add_zero]
    unfold GatherDims.start
    rw [dif_pos (show (2 : Fin 3) ∈ gather_S8x5000x1001_S8x5000x1x1_S8x5000x1_n_2_01_01_2_3_111.startIndexMap from List.mem_cons_self)]
    have hsi : gather_S8x5000x1001_S8x5000x1x1_S8x5000x1_n_2_01_01_2_3_111.siIdx (ix3 B q (0 : Fin 1))
        ⟨List.idxOf (2 : Fin 3) gather_S8x5000x1001_S8x5000x1x1_S8x5000x1_n_2_01_01_2_3_111.startIndexMap, List.idxOf_lt_length_iff.2 List.mem_cons_self⟩
        = ix4 B q (0 : Fin 1) (0 : Fin 1) := by
      funext b
      refine Fin.ext ?_
      match b with
      | ⟨0, _⟩ => rfl
      | ⟨1, _⟩ => rfl
      | ⟨2, _⟩ => rfl
      | ⟨3, _⟩ => rfl
    have e : min (idx (ix4 B q (0 : Fin 1) (0 : Fin 1))).toInt.toNat (1001 - 1) = n := by rw [h]; omega
    exact (congrArg (fun z => min (idx z).toInt.toNat (1001 - 1)) hsi).trans e
  match a with
  | ⟨0, _⟩ => exact h0
  | ⟨1, _⟩ => exact h1
  | ⟨2, _⟩ => exact h2

theorem gather2 (s : FVec Ideal S8x1001 .f32) (idx : IVec S8x5000x1 32) (n : ℕ) (hn : n < 1001)
    (h : (idx (ix3 B q (0 : Fin 1))).toInt.toNat = n) :
    Host.gather gather_S8x1001_S8x5000x1_S8x5000_n_1_0_0_1_2_11 s idx (ix2 B q) = s (ix2 B ⟨n, hn⟩) := by
  unfold Host.gather
  refine congrArg s (funext fun a => Fin.ext ?_)
  show gather_S8x1001_S8x5000x1_S8x5000_n_1_0_0_1_2_11.start (ix2 B q) idx a
    + gather_S8x1001_S8x5000x1_S8x5000_n_1_0_0_1_2_11.batchCoord (ix2 B q) a
    + gather_S8x1001_S8x5000x1_S8x5000_n_1_0_0_1_2_11.offCoord (ix2 B q) a = _
  have h0 : gather_S8x1001_S8x5000x1_S8x5000_n_1_0_0_1_2_11.start (ix2 B q) idx (0 : Fin 2) + gather_S8x1001_S8x5000x1_S8x5000_n_1_0_0_1_2_11.batchCoord (ix2 B q) (0 : Fin 2) + gather_S8x1001_S8x5000x1_S8x5000_n_1_0_0_1_2_11.offCoord (ix2 B q) (0 : Fin 2) = B.val := by
    rw [GatherDims.start_batching _ _ _ _ List.mem_cons_self,
      GatherDims.offCoord_eq_zero _ _ _ (fun h => ((GatherDims.mem_sKept _ _).mp h).2 List.mem_cons_self)]
    simp only [Nat.zero_add, Nat.add_zero]
    unfold GatherDims.batchCoord
    rw [dif_pos (show (0 : Fin 2) ∈ gather_S8x1001_S8x5000x1_S8x5000_n_1_0_0_1_2_11.operandBatchingDims from List.mem_cons_self)]
    rfl
  have h1 : gather_S8x1001_S8x5000x1_S8x5000_n_1_0_0_1_2_11.start (ix2 B q) idx (1 : Fin 2) + gather_S8x1001_S8x5000x1_S8x5000_n_1_0_0_1_2_11.batchCoord (ix2 B q) (1 : Fin 2) + gather_S8x1001_S8x5000x1_S8x5000_n_1_0_0_1_2_11.offCoord (ix2 B q) (1 : Fin 2) = n := by
    rw [GatherDims.batchCoord_eq_zero _ _ _ (show (1 : Fin 2) ∉ gather_S8x1001_S8x5000x1_S8x5000_n_1_0_0_1_2_11.operandBatchingDims by decide),
      GatherDims.offCoord_eq_zero _ _ _ (fun h => ((GatherDims.mem_sKept _ _).mp h).1 List.mem_cons_self)]
    simp only [Nat.add_zero]
    unfold GatherDims.start
    rw [dif_pos (show (1 : Fin 2) ∈ gather_S8x1001_S8x5000x1_S8x5000_n_1_0_0_1_2_11.startIndexMap from List.mem_cons_self)]
    have hsi : gather_S8x1001_S8x5000x1_S8x5000_n_1_0_0_1_2_11.siIdx (ix2 B q)
        ⟨List.idxOf (1 : Fin 2) gather_S8x1001_S8x5000x1_S8x5000_n_1_0_0_1_2_11.startIndexMap, List.idxOf_lt_length_iff.2 List.mem_cons_self⟩
        = ix3 B q (0 : Fin 1) := by
      funext b
      refine Fin.ext ?_
      match b with
      | ⟨0, _⟩ => rfl
      | ⟨1, _⟩ => rfl
      | ⟨2, _⟩ => rfl
    have e : min (idx (ix3 B q (0 : Fin 1))).toInt.toNat (1001 - 1) = n := by rw [h]; omega
    exact (congrArg (fun z => min (idx z).toInt.toNat (1001 - 1)) hsi).trans e
  match a with
  | ⟨0, _⟩ => exact h0
  | ⟨1, _⟩ => exact h1

/-! ## Reading the operations -/

theorem wrap (w y : BitVec 32) (h : w.toNat < 1001) : Scalar.select (IntOp.cmpi .slt w 0#32) y w = w := by
  rw [sel_slt _ _ (by omega) (by decide), if_neg (by simp)]
theorem wrap_int (w : BitVec 32) (h : w.toNat < 1001) : w.toInt.toNat = w.toNat := by
  rw [BitVec.toInt_eq_toNat_cond, if_pos (by omega), Int.toNat_natCast]

theorem score_at (s : FVec Ideal S8x5000x1001 .f32) (i : IVec S8x5000 32) (h : (i (ix2 B q)).toNat < 1001) :
    score (F := Ideal) s i (ix2 B q) = s (ix3 B q ⟨(i (ix2 B q)).toNat, h⟩) := by
  unfold score
  dsimp only
  refine (shapeCast_apply _ _ _ (ix3 B q (0 : Fin 1) : S8x5000x1.Idx) ?_).trans (gather3 B q s _ _ h ?_)
  · rw [Shape.rowMajor_val_three, Shape.rowMajor_val_two]
    show (B.val * 5000 + q.val) * 1 + 0 = B.val * 5000 + q.val
    omega
  · rw [shapeCast_apply _ _ _ (ix3 B q (0 : Fin 1) : S8x5000x1.Idx) (by
      rw [Shape.rowMajor_val_three, Shape.rowMajor_val_four]
      show (B.val * 5000 + q.val) * 1 + 0 = ((B.val * 5000 + q.val) * 1 + 0) * 1 + 0
      omega)]
    have e : broadcastInDim S8x5000x1 ![0, 1] bcast_S8x5000_S8x5000x1_0_1 i (ix3 B q (0 : Fin 1)) = i (ix2 B q) :=
      broadcastInDim_apply _ _ _ _ (ix2 B q) fun c => by
        match c with
        | ⟨0, _⟩ => rfl
        | ⟨1, _⟩ => rfl
    show (Scalar.select (IntOp.cmpi .slt (broadcastInDim S8x5000x1 ![0, 1] bcast_S8x5000_S8x5000x1_0_1 i (ix3 B q (0 : Fin 1))) 0#32) _
      (broadcastInDim S8x5000x1 ![0, 1] bcast_S8x5000_S8x5000x1_0_1 i (ix3 B q (0 : Fin 1)))).toInt.toNat = _
    rw [e, wrap _ _ h, wrap_int _ h]

theorem bestQ_at (t : FVec Ideal S8x1001 .f32) (i : IVec S8x5000 32) (h : (i (ix2 B q)).toNat < 1001) :
    bestQ (F := Ideal) t i (ix2 B q) = t (ix2 B ⟨(i (ix2 B q)).toNat, h⟩) := by
  unfold bestQ
  refine gather2 B q t _ _ h ?_
  rw [shapeCast_apply _ _ _ (ix2 B q : S8x5000.Idx) (by
    rw [Shape.rowMajor_val_three, Shape.rowMajor_val_two]
    show B.val * 5000 + q.val = (B.val * 5000 + q.val) * 1 + 0
    omega)]
  show (Scalar.select (IntOp.cmpi .slt (i (ix2 B q)) 0#32) _ (i (ix2 B q))).toInt.toNat = _
  rw [wrap _ _ h, wrap_int _ h]

theorem valid_at (i : IVec S8x5000 32) : valid i (ix2 B q) = BitVec.ofBool (decide ((i (ix2 B q)).toNat ≠ 1000)) := by
  show ~~~ IntOp.cmpi .eq (i (ix2 B q)) 1000#32 = _
  rw [cmpi_eq_iff]
  show ~~~ BitVec.ofBool (decide ((i (ix2 B q)).toNat = 1000)) = _
  by_cases h : (i (ix2 B q)).toNat = 1000
  · simp [h]
  · simp [h]

theorem scoreM_at (i : IVec S8x5000 32) (s : FVec Ideal S8x5000 .f32) :
    (scoreM (F := Ideal) i s (ix2 B q) : EReal) = if (i (ix2 B q)).toNat ≠ 1000 then (s (ix2 B q) : EReal) else fill := by
  show Scalar.select (valid i (ix2 B q)) (s (ix2 B q) : EReal) fill = _
  rw [valid_at, select_ofBool]

theorem redBest : S8x5000x1001.Reduces [1] S8x1001 := by decide
theorem liftBest (c : Fin 1001) (k : Fin 5000) : redBest.lift (ix2 B c : S8x1001.Idx) k = (ix3 B k c : S8x5000x1001.Idx) := by
  funext d
  match d with
  | ⟨0, _⟩ => rfl
  | ⟨1, _⟩ => rfl
  | ⟨2, _⟩ => rfl

theorem classes_at (k : Fin 1001) : broadcastInDim S8x5000x1001 ![0, 1, 2] bcast_S1x1x1001_S8x5000x1001_0_1_2
    (broadcastInDim S1x1x1001 ![2] bcast_S1001_S1x1x1001_2 (iotaInDim S1001 32 0)) (ix3 B q k) = BitVec.ofNat 32 k.val := by
  refine (broadcastInDim_apply _ _ _ _ (ix3 (0 : Fin 1) (0 : Fin 1) k : S1x1x1001.Idx) fun c => ?_).trans
    ((broadcastInDim_apply _ _ _ _ (ix1 k : S1001.Idx) fun c => ?_).trans rfl)
  · match c with
    | ⟨0, _⟩ => rfl
    | ⟨1, _⟩ => rfl
    | ⟨2, _⟩ => rfl
  · match c with
    | ⟨0, _⟩ => rfl

theorem max5000 (x : FVec Ideal S8x5000x1001 .f32) (c : Fin 1001) : (Host.reduce (FloatOps.maximumf (F := Ideal) (φ := .f32)) x
      (constant (F := Ideal) S_ .f32 0xFF800000#32) reducesTo_S8x5000x1001_S8x1001_d1 h_S_ (ix2 B c : S8x1001.Idx) : EReal)
    = (Finset.univ : Finset (Fin 5000)).sup fun k => (x (ix3 B k c) : EReal) := by
  refine (Host.reduce_eq_fold_single (max : EReal → EReal → EReal) x _ reducesTo_S8x5000x1001_S8x1001_d1 redBest h_S_ (ix2 B c)).trans ?_
  have e : (constant (F := Ideal) S_ .f32 0xFF800000#32 (Shape.Idx.first h_S_) : EReal) = ⊥ := ofBits_ninf'
  rw [e]
  refine congrArg (Finset.fold (max : EReal → EReal → EReal) ⊥ · Finset.univ) (funext fun k => ?_)
  exact congrArg x (liftBest B c k)

theorem sel_cmp (x y : IVec S8x5000x1001 32) (u v : FVec Ideal S8x5000x1001 .f32) (j : S8x5000x1001.Idx) :
    (select (cmpi .eq x y) u v j : EReal) = if (x j).toNat = (y j).toNat then (u j : EReal) else (v j : EReal) :=
  sel_eq (x j) (y j) (u j : EReal) (v j : EReal)

theorem fill_at (j : S8x5000x1001.Idx) :
    (broadcastInDim S8x5000x1001 ![] bcast_S_S8x5000x1001 (constant (F := Ideal) S_ .f32 0xF149F2CA#32) j : EReal) = fill := rfl

theorem bestR_at (i : IVec S8x5000 32) (s : FVec Ideal S8x5000 .f32) (c : Fin 1001) :
    (bestR (F := Ideal) i s (ix2 B c) : EReal)
      = (Finset.univ : Finset (Fin 5000)).sup fun k => if (i (ix2 B k)).toNat = c.val then (s (ix2 B k) : EReal) else fill := by
  unfold bestR
  rw [max5000]
  refine Finset.sup_congr rfl fun k _ => ?_
  rw [sel_cmp, spread1001, spread1001, classes_at, fill_at, BitVec.toNat_ofNat, Nat.mod_eq_of_lt (by have := c.isLt; omega)]

theorem res_at (p : FVec Ideal S8x5000x1000 .f32) (t : IVec S8x5000 1) (k : Fin 1000) :
    (res (F := Ideal) p t (ix3 B q k) : EReal) = (p (ix3 B q k) : EReal) * (((t (ix2 B q)).toNat : ℝ) : EReal) := by
  have e : ∀ u : IVec S8x5000x1 1, broadcastInDim S8x5000x1000 ![0, 1, 2] bcast_S8x5000x1_S8x5000x1000_0_1_2 (uitofp (F := Ideal) .f32 u) (ix3 B q k)
      = uitofp (F := Ideal) .f32 u (ix3 B q (0 : Fin 1)) := fun u => broadcastInDim_apply _ _ _ _ (ix3 B q (0 : Fin 1) : S8x5000x1.Idx) fun c => by
    match c with
    | ⟨0, _⟩ => rfl
    | ⟨1, _⟩ => rfl
    | ⟨2, _⟩ => rfl
  have e' : broadcastInDim S8x5000x1 ![0, 1] bcast_S8x5000_S8x5000x1_0_1 t (ix3 B q (0 : Fin 1)) = t (ix2 B q) :=
    broadcastInDim_apply _ _ _ _ (ix2 B q) fun c => by
      match c with
      | ⟨0, _⟩ => rfl
      | ⟨1, _⟩ => rfl
  unfold res
  show (p (ix3 B q k) : EReal) * _ = _
  rw [e]
  show (p (ix3 B q k) : EReal) * (((broadcastInDim S8x5000x1 ![0, 1] bcast_S8x5000_S8x5000x1_0_1 t (ix3 B q (0 : Fin 1))).toNat : ℝ) : EReal) = _
  rw [e']

theorem keepR_at (v : IVec S8x5000 1) (s : FVec Ideal S8x5000 .f32) (t : FVec Ideal S8x1001 .f32) (i : IVec S8x5000 32) :
    keepR (F := Ideal) v s t i (ix2 B q) = IntOp.andi (v (ix2 B q)) (BitVec.ofBool (decide ((s (ix2 B q) : EReal) = (bestQ (F := Ideal) t i (ix2 B q) : EReal)))) := rfl

/-! ## The result -/

/-- A query is kept when its greatest entry is first taken at a vector class, and no query of that class scores more. -/
def Keep (x : Fin 5000 → Fin 1001 → EReal) (q : Fin 5000) : Prop :=
  ∃ n, n < 1000 ∧ IsPos (x q) n ∧ ∀ q', IsPos (x q') n → sc (x q') ≤ sc (x q)

open Classical in
theorem rOut_at (a : FVec Ideal S8x5000x1001 .f32) (b : IVec S8x1000 1) (hr : ∀ B q, Row (X a b B q)) (k : Fin 1000) :
    (rOut (F := Ideal) a b (ix3 B q k) : EReal) = if Keep (X a b B) q
      then Ideal.div (Ideal.exp (X a b B q k.castSucc - vmx (X a b B q))) (0 + vsum (X a b B q)) else 0 := by
  have hv := fun B q => vecL_at a b B q
  have hp := fun B q => allL_at a b B q _ (hv B q)
  unfold rOut
  generalize vecL (F := Ideal) a b = v at hv hp ⊢
  generalize allL (F := Ideal) a v = p at hp ⊢
  have hi := fun B q => cls_at B q p (X a b B q) (hp B q) (hr B q)
  generalize cls (F := Ideal) p = i at hi ⊢
  have hlt : ∀ B q, (i (ix2 B q)).toNat < 1001 := fun B q => (hi B q).1
  have hs : ∀ B q, (scoreM (F := Ideal) i (score (soft p) i) (ix2 B q) : EReal) = if (i (ix2 B q)).toNat ≠ 1000 then sc (X a b B q) else fill := fun B q => by
    rw [scoreM_at]
    by_cases h : (i (ix2 B q)).toNat ≠ 1000
    · rw [if_pos h, if_pos h, score_at B q _ i (hlt B q), soft_at B q p _ (hp B q)]
      exact rscore (hr B q) (hi B q) (by have := hlt B q; omega)
    · rw [if_neg h, if_neg h]
  generalize scoreM (F := Ideal) i (score (soft p) i) = s at hs ⊢
  rw [res_at, keepR_at, bestQ_at B q _ i (hlt B q), bestR_at, valid_at, probs_at B q v _ (hv B q)]
  set n := (i (ix2 B q)).toNat with hn
  have hn1 : n < 1001 := hlt B q
  have key : Keep (X a b B) q ↔ n ≠ 1000 ∧ (s (ix2 B q) : EReal)
      = (Finset.univ : Finset (Fin 5000)).sup fun k => if (i (ix2 B k)).toNat = n then (s (ix2 B k) : EReal) else fill := by
    constructor
    · rintro ⟨m, hm, hpos, hbest⟩
      have e : n = m := (hi B q).eq hpos
      subst e
      have hne : n ≠ 1000 := by omega
      have hsq : (s (ix2 B q) : EReal) = sc (X a b B q) := by rw [hs, if_pos (hn ▸ hne)]
      refine ⟨hne, le_antisymm ?_ (Finset.sup_le fun k _ => ?_)⟩
      · have := Finset.le_sup (f := fun k : Fin 5000 => if (i (ix2 B k)).toNat = n then (s (ix2 B k) : EReal) else fill) (Finset.mem_univ q)
        rwa [if_pos hn.symm] at this
      · split
        · next h =>
          rw [hsq, hs, if_pos (h ▸ hne)]
          exact hbest k (h ▸ hi B k)
        · rw [hsq]; exact fill_le.trans (sc_nonneg (hr B q) hpos hm)
    · rintro ⟨hne, e⟩
      refine ⟨n, by omega, hi B q, fun k hk => ?_⟩
      have hkn : (i (ix2 B k)).toNat = n := (hi B k).eq hk
      have := Finset.le_sup (f := fun k : Fin 5000 => if (i (ix2 B k)).toNat = n then (s (ix2 B k) : EReal) else fill) (Finset.mem_univ k)
      rw [← e, if_pos hkn, hs, hs, if_pos (hkn ▸ hne), if_pos (hn ▸ hne)] at this
      exact this
  by_cases h : Keep (X a b B) q
  · rw [if_pos h]
    obtain ⟨h1, h2⟩ := key.mp h
    rw [decide_eq_true h1, decide_eq_true h2]
    show _ * (((1 : ℕ) : ℝ) : EReal) = _
    rw [Nat.cast_one, EReal.coe_one, mul_one]
  · rw [if_neg h]
    have hz : IntOp.andi (BitVec.ofBool (decide (n ≠ 1000))) (BitVec.ofBool (decide ((s (ix2 B q) : EReal)
      = (Finset.univ : Finset (Fin 5000)).sup fun k => if (i (ix2 B k)).toNat = n then (s (ix2 B k) : EReal) else fill))) = 0#1 := by
      by_cases h1 : n ≠ 1000
      · have h2 := fun h2 => h (key.mpr ⟨h1, h2⟩)
        rw [decide_eq_false h2]
        unfold IntOp.andi
        simp
      · rw [decide_eq_false h1]
        unfold IntOp.andi
        simp
    rw [hz]
    show _ * (((0 : ℕ) : ℝ) : EReal) = _
    rw [Nat.cast_zero, EReal.coe_zero, mul_zero]

end Cert.Proof.M
-- ==== Proof.MDed.lean ====
/-
  The dedup's table on the extended reals: the best score of a class is the least upper bound of the scores of the
  queries that predict it.
-/
module

public import proofs.«01_k».proof.Proof.PISetUp
public import Idealize.ShloMosaic.PureOps.Ideal.Laws

@[expose] public section

noncomputable section

namespace Cert.Proof.M

open Idealize.ShloMosaic
open Cert.KernelIdeal
open Cert.Proof.PI (neg rowAt tabAt tab lanes best dedup RowI RowF Tab)

theorem neg_eq : (neg : Ideal .f32) = (⊥ : EReal) := rfl

theorem rowAt_val (n : ℕ) : (rowAt n 0).val = n % 5120 := rfl
theorem tabAt_val (n : ℕ) : (tabAt n 0).val = n % 16128 := rfl

theorem tab_le (ix : RowI) (sm : RowF (F := Ideal)) (n : ℕ) (x : S16128.Idx) (z : EReal) :
    (tab ix sm n x : EReal) ≤ z ↔ ∀ i < n, (ix (rowAt (16 * i + (x 0).val / 1008))).toNat = (x 0).val % 1008 →
      (sm (rowAt (16 * i + (x 0).val / 1008)) : EReal) ≤ z := by
  induction n with
  | zero =>
    unfold tab
    rw [neg_eq]
    exact ⟨fun _ i hi => absurd hi (Nat.not_lt_zero i), fun _ => bot_le⟩
  | succ n ih =>
    unfold tab
    by_cases hc : (ix (rowAt (16 * n + (x 0).val / 1008))).toNat = (x 0).val % 1008
    · rw [if_pos hc]
      show max (tab ix sm n x : EReal) _ ≤ z ↔ _
      rw [max_le_iff, ih]
      constructor
      · rintro ⟨h1, h2⟩ i hi he
        rcases Nat.lt_succ_iff_lt_or_eq.mp hi with h | rfl
        · exact h1 i h he
        · exact h2
      · exact fun h => ⟨fun i hi => h i (by omega), h n (by omega) hc⟩
    · rw [if_neg hc, ih]
      constructor
      · intro h1 i hi he
        rcases Nat.lt_succ_iff_lt_or_eq.mp hi with h | rfl
        · exact h1 i h he
        · exact absurd he hc
      · exact fun h i hi => h i (by omega)

theorem lanes_le (t : Tab (F := Ideal)) (c l : ℕ) (z : EReal) :
    (lanes t c l : EReal) ≤ z ↔ ∀ m ≤ l, (t (tabAt (1008 * m + c)) : EReal) ≤ z := by
  induction l with
  | zero =>
    unfold lanes
    constructor
    · intro h m hm
      obtain rfl : m = 0 := by omega
      rw [Nat.mul_zero, Nat.zero_add]; exact h
    · intro h
      have := h 0 le_rfl
      rwa [Nat.mul_zero, Nat.zero_add] at this
  | succ l ih =>
    unfold lanes
    show max (lanes t c l : EReal) _ ≤ z ↔ _
    rw [max_le_iff, ih]
    constructor
    · rintro ⟨h1, h2⟩ m hm
      rcases Nat.le_succ_iff.mp hm with h | rfl
      · exact h1 m h
      · exact h2
    · exact fun h => ⟨fun m hm => h m (by omega), h (l + 1) le_rfl⟩

/-- The best score of a class is below `z` exactly when every score of a query predicting it is. -/
theorem best_le (ix : RowI) (sm : RowF (F := Ideal)) (c : ℕ) (hc : c < 1008) (z : EReal) :
    (best ix sm c : EReal) ≤ z ↔ ∀ n < 5120, (ix (rowAt n)).toNat = c → (sm (rowAt n) : EReal) ≤ z := by
  unfold best
  rw [lanes_le]
  constructor
  · intro h n hn he
    have h1 := (tab_le ix sm 320 _ z).mp (h (n % 16) (by omega)) (n / 16) (by omega)
    rw [tabAt_val, show (1008 * (n % 16) + c) % 16128 = 1008 * (n % 16) + c by omega,
      show (1008 * (n % 16) + c) / 1008 = n % 16 by omega, show (1008 * (n % 16) + c) % 1008 = c by omega,
      show 16 * (n / 16) + n % 16 = n by omega] at h1
    exact h1 he
  · intro h m hm
    rw [tab_le]
    intro i hi he
    rw [tabAt_val, show (1008 * m + c) % 16128 = 1008 * m + c by omega,
      show (1008 * m + c) / 1008 = m by omega, show (1008 * m + c) % 1008 = c by omega] at he
    rw [tabAt_val, show (1008 * m + c) % 16128 = 1008 * m + c by omega,
      show (1008 * m + c) / 1008 = m by omega]
    exact h _ (by omega) he

end Cert.Proof.M
-- ==== Proof.MKerD.lean ====
/-
  The kernel's arrays in terms of the masked rows, and its result at a query and a class.
-/
module

public import proofs.«01_k».proof.Proof.MKerB
public import proofs.«01_k».proof.Proof.MKerC
public import proofs.«01_k».proof.Proof.MRefD
public import proofs.«01_k».proof.Proof.MDed
public import proofs.«01_k».proof.Proof.PIVal
public import Idealize.ShloMosaic.Lib.KernelVsHost

@[expose] public section

noncomputable section

namespace Cert.Proof.M

open Idealize.ShloMosaic
open Cert.KernelIdeal Cert.KernelIdeal.Gen
open Cert.Proof.PI

/-- The point a query's block is written at, the query's lane in the block. -/
def tOf (B : Fin 8) (q : Fin 5000) : Fin 40 := ⟨B.val * 5 + q.val / 1000, by omega⟩
def lOf (q : Fin 5000) : Fin 1000 := ⟨q.val % 1000, Nat.mod_lt _ (by decide)⟩

variable (a : FVec Ideal S8x5000x1001 .f32) (b : IVec S8x1000 1) (B : Fin 8) (q : Fin 5000)

theorem ofBits_zero'' : Ideal.ofBits .f32 0x00000000#32 = 0 := by simp [Ideal.ofBits, Ideal.ieee]

theorem mask_at (k : Fin 1001) : (maskOf (F := Ideal) b (ix3 B (0 : Fin 1) k) : EReal)
    = if h : k.val < 1000 then (if b (ix2 B ⟨k.val, h⟩) = 1#1 then 0 else ⊥) else 0 := by
  unfold maskOf
  refine (broadcastInDim_apply _ _ _ _ (ix2 B k : S8x1001.Idx) fun c => ?_).trans ?_
  · match c with
    | ⟨0, _⟩ => rfl
    | ⟨1, _⟩ => rfl
  show Scalar.select (concatenate S8x1001 1 [⟨S8x1000, b⟩, ⟨S8x1, broadcastInDim S8x1 ![] bcast_S_S8x1 (constantI S_ 1 1#1)⟩] concatenates_S8x1000_S8x1_S8x1001_d1 (ix2 B k))
    (Ideal.ofBits .f32 0x00000000#32) (Ideal.ofBits .f32 0xFF800000#32) = _
  rw [ofBits_zero'', ofBits_ninf']
  by_cases h : k.val < 1000
  · rw [dif_pos h, concatenate_pair_apply_left (t := S8x1001) (s₁ := S8x1000) (s₂ := S8x1) 1 b _ _ (ix2 B k) rfl (ix2 B ⟨k.val, h⟩ : S8x1000.Idx) fun c => by
      match c with
      | ⟨0, _⟩ => rfl
      | ⟨1, _⟩ => rfl]
    rfl
  · rw [dif_neg h]
    have hk : k.val = 1000 := by have := k.isLt; omega
    rw [concatenate_pair_apply_right (t := S8x1001) (s₁ := S8x1000) (s₂ := S8x1) 1 b _ _ (ix2 B k) rfl rfl (ix2 B (0 : Fin 1) : S8x1.Idx)
      (fun c hc => by
        match c with
        | ⟨0, _⟩ => rfl
        | ⟨1, _⟩ => exact absurd rfl hc) (by show 0 + 1000 = k.val; omega)]
    rfl

theorem row_at (k : Fin 1001) : (k0_pay5 (F := Ideal) (rowsAt a (tOf B q)) (maskAt (maskOf (F := Ideal) b) (tOf B q)) (ix2 (lOf q) k) : EReal) = X a b B q k := by
  rw [pay5_at]
  have e1 : rowsAt a (tOf B q) (ix3 (0 : Fin 1) (lOf q) k) = a (ix3 B q k) := by
    refine congrArg a (funext fun c => Fin.ext ?_)
    match c with
    | ⟨0, _⟩ => show (B.val * 5 + q.val / 1000) / 5 = B.val; omega
    | ⟨1, _⟩ => show (B.val * 5 + q.val / 1000) % 5 * 1000 + q.val % 1000 = q.val; omega
    | ⟨2, _⟩ => rfl
  have e2 : maskAt (maskOf (F := Ideal) b) (tOf B q) (ix3 (0 : Fin 1) (0 : Fin 1) k) = maskOf (F := Ideal) b (ix3 B (0 : Fin 1) k) := by
    refine congrArg (maskOf (F := Ideal) b) (funext fun c => Fin.ext ?_)
    match c with
    | ⟨0, _⟩ => show (B.val * 5 + q.val / 1000) / 5 = B.val; omega
    | ⟨1, _⟩ => rfl
    | ⟨2, _⟩ => rfl
  rw [e1, e2, mask_at]
  unfold X
  by_cases h : k.val < 1000
  · rw [dif_pos h, dif_pos h]
    by_cases hb : b (ix2 B ⟨k.val, h⟩) = 1#1
    · rw [if_pos hb, if_pos hb]; exact add_zero _
    · rw [if_neg hb, if_neg hb]; exact EReal.add_bot _
  · rw [dif_neg h, dif_neg h]; exact add_zero _

/-! ## The first region's arrays -/

theorem gIdx_at : IsPos (X a b B q) (gIdx a (maskOf (F := Ideal) b) (ix3 (tOf B q) (0 : Fin 1) (lOf q))).toNat := by
  show IsPos (X a b B q) (k0_pay1 (k0_pay7 (F := Ideal) (rowsAt a (tOf B q)) (maskAt (maskOf (F := Ideal) b) (tOf B q))) (ix3 (0 : Fin 1) (0 : Fin 1) (lOf q))).toNat
  rw [pay1_at]
  exact pay7_at _ _ _ _ (row_at a b B q)

theorem gMax_at : (gMax a (maskOf (F := Ideal) b) (ix3 (tOf B q) (0 : Fin 1) (lOf q)) : EReal) = vmx (X a b B q) := by
  show (k0_pay3 (F := Ideal) (k0_pay8 (F := Ideal) (rowsAt a (tOf B q)) (maskAt (maskOf (F := Ideal) b) (tOf B q))) (ix3 (0 : Fin 1) (0 : Fin 1) (lOf q)) : EReal) = _
  rw [pay3_at]
  exact pay8_at _ _ _ _ (row_at a b B q)

variable {n : ℕ}

theorem gSm_at (hr : Row (X a b B q)) (hp : IsPos (X a b B q) n) (hn : n < 1000) :
    (gSm a (maskOf (F := Ideal) b) (ix3 (tOf B q) (0 : Fin 1) (lOf q)) : EReal) = sc (X a b B q) := by
  have h7 := pay7_at _ _ _ _ (row_at a b B q)
  have e7 : (k0_pay7 (F := Ideal) (rowsAt a (tOf B q)) (maskAt (maskOf (F := Ideal) b) (tOf B q)) (ix1 (lOf q))).toNat = n := h7.eq hp
  show (k0_pay2 (F := Ideal) (k0_pay7 (F := Ideal) (rowsAt a (tOf B q)) (maskAt (maskOf (F := Ideal) b) (tOf B q)))
    (k0_pay11 (F := Ideal) (rowsAt a (tOf B q)) (maskAt (maskOf (F := Ideal) b) (tOf B q))) 1000#32 (ix3 (0 : Fin 1) (0 : Fin 1) (lOf q)) : EReal) = _
  rw [pay2_at _ _ _ (by rw [e7]; omega), e7, if_pos hn, pay11_at _ _ _ _ (row_at a b B q), pay10_at _ _ _ _ (row_at a b B q), ksum hr hp hn]
  exact kscore hr hp hn

theorem gInv_at (hr : Row (X a b B q)) (hp : IsPos (X a b B q) n) (hn : n < 1000) :
    (gInv a (maskOf (F := Ideal) b) (ix3 (tOf B q) (0 : Fin 1) (lOf q)) : EReal) = Ideal.div 1 (vsum (X a b B q)) := by
  show (k0_pay4 (F := Ideal) (k0_pay10 (F := Ideal) (rowsAt a (tOf B q)) (maskAt (maskOf (F := Ideal) b) (tOf B q))) (ix3 (0 : Fin 1) (0 : Fin 1) (lOf q)) : EReal) = _
  rw [pay4_at, pay10_at _ _ _ _ (row_at a b B q), ksum hr hp hn]

/-! ## The arrays between the regions -/

variable {α : Type}

theorem merge_at (x : S40x1x1000.Idx → α) : shapeCast S8x5000 x shapeCasts_S40x1x1000_S8x5000 (ix2 B q) = x (ix3 (tOf B q) (0 : Fin 1) (lOf q)) :=
  shapeCast_apply _ _ _ (ix3 (tOf B q) (0 : Fin 1) (lOf q) : S40x1x1000.Idx) (by
    rw [Shape.rowMajor_val_three, Shape.rowMajor_val_two]
    show ((B.val * 5 + q.val / 1000) * 1 + 0) * 1000 + q.val % 1000 = B.val * 5000 + q.val
    omega)

theorem pad_in {u : Shape} (x : S8x5000.Idx → α) (v : u.Idx → α) (hu : 0 < u.numel) (j : Fin 5120) (hj : j.val = q.val) :
    pad S8x5120 ![0, 0] ![0, 120] ![0, 0] x v pads_S8x5000_S8x5120_000_01200 hu (ix2 B j) = x (ix2 B q) :=
  pad_apply_of_inside _ _ _ _ _ _ _ _ (ix2 B q : S8x5000.Idx) fun c => by
    match c with
    | ⟨0, _⟩ => show B.val = 0 + B.val * (0 + 1); omega
    | ⟨1, _⟩ => show j.val = 0 + q.val * (0 + 1); omega

theorem pad_out {u : Shape} (x : S8x5000.Idx → α) (v : u.Idx → α) (hu : 0 < u.numel) (j : Fin 5120) (hj : 5000 ≤ j.val) :
    pad S8x5120 ![0, 0] ![0, 120] ![0, 0] x v pads_S8x5000_S8x5120_000_01200 hu (ix2 B j) = v (Shape.Idx.first hu) :=
  pad_apply_of_not_inside _ _ _ _ _ _ _ _ (1 : Fin 2) fun h => by
    have h3 : (j.val - 0) / (0 + 1) < 5000 := h.2.2
    omega

theorem fIdx_in (j : Fin 5120) (hj : j.val = q.val) : IsPos (X a b B q) (fIdx (F := Ideal) a b (ix2 B j)).toNat := by
  unfold fIdx padI
  rw [pad_in B q _ _ _ j hj, merge_at]
  exact gIdx_at a b B q
theorem fIdx_out (j : Fin 5120) (hj : 5000 ≤ j.val) : fIdx (F := Ideal) a b (ix2 B j) = 1000#32 := by
  unfold fIdx padI
  rw [pad_out B _ _ _ j hj]
  rfl
theorem fSm_in (j : Fin 5120) (hj : j.val = q.val) (hr : Row (X a b B q)) (hp : IsPos (X a b B q) n) (hn : n < 1000) :
    (fSm (F := Ideal) a b (ix2 B j) : EReal) = sc (X a b B q) := by
  unfold fSm padS
  rw [pad_in B q _ _ _ j hj, merge_at]
  exact gSm_at a b B q hr hp hn
theorem fInv_in (j : Fin 5120) (hj : j.val = q.val) (hr : Row (X a b B q)) (hp : IsPos (X a b B q) n) (hn : n < 1000) :
    (fInv (F := Ideal) a b (ix2 B j) : EReal) = Ideal.div 1 (vsum (X a b B q)) := by
  unfold fInv padV
  rw [pad_in B q _ _ _ j hj, merge_at]
  exact gInv_at a b B q hr hp hn

theorem cell_at (m : ℕ) (hm : m < 5120) : cell B.val (rowAt m) = (ix2 B ⟨m, hm⟩ : S8x5120.Idx) := by
  funext c
  match c with
  | ⟨0, _⟩ => exact Fin.ext (show B.val % 8 = B.val by omega)
  | ⟨1, _⟩ => exact Fin.ext (show m % 5120 = m by omega)

/-! ## The dedup and the result -/

open Classical in
theorem dedup_at (hr : ∀ q, Row (X a b B q)) (j : Fin 5120) (hj : j.val = q.val) :
    (dedups (F := Ideal) (fIdx (F := Ideal) a b) (fSm (F := Ideal) a b) (fInv (F := Ideal) a b) (ix2 B j) : EReal)
      = if Keep (X a b B) q then Ideal.div 1 (vsum (X a b B q)) else 0 := by
  have hI : ∀ m (hm : m < 5120), rowOfI (fIdx (F := Ideal) a b) B.val (rowAt m) = fIdx (F := Ideal) a b (ix2 B ⟨m, hm⟩) := fun m hm =>
    congrArg (fIdx (F := Ideal) a b) (cell_at B m hm)
  have hS : ∀ m (hm : m < 5120), rowOfF (F := Ideal) (fSm (F := Ideal) a b) B.val (rowAt m) = fSm (F := Ideal) a b (ix2 B ⟨m, hm⟩) := fun m hm =>
    congrArg (fSm (F := Ideal) a b) (cell_at B m hm)
  have hV : rowOfF (F := Ideal) (fInv (F := Ideal) a b) B.val (rowAt j.val) = fInv (F := Ideal) a b (ix2 B j) :=
    congrArg (fInv (F := Ideal) a b) (cell_at B j.val j.isLt)
  have hpos := fIdx_in a b B q j hj
  set n := (fIdx (F := Ideal) a b (ix2 B j)).toNat with hn
  have hn1 : n < 1001 := hpos.1
  have hIj : rowOfI (fIdx (F := Ideal) a b) B.val (rowAt j.val) = fIdx (F := Ideal) a b (ix2 B j) := hI j.val j.isLt
  have hSj : rowOfF (F := Ideal) (fSm (F := Ideal) a b) B.val (rowAt j.val) = fSm (F := Ideal) a b (ix2 B j) := hS j.val j.isLt
  show Scalar.select (IntOp.andi (FloatOps.cmpf (F := Ideal) (φ := .f32) .oeq (rowOfF (F := Ideal) (fSm (F := Ideal) a b) B.val (rowAt j.val))
      (best (rowOfI (fIdx (F := Ideal) a b) B.val) (rowOfF (F := Ideal) (fSm (F := Ideal) a b) B.val) (rowOfI (fIdx (F := Ideal) a b) B.val (rowAt j.val)).toNat))
    (IntOp.cmpi .slt (rowOfI (fIdx (F := Ideal) a b) B.val (rowAt j.val)) 1000#32)) (rowOfF (F := Ideal) (fInv (F := Ideal) a b) B.val (rowAt j.val) : EReal)
    (Ideal.ofBits .f32 0x00000000#32) = _
  rw [hIj, hSj, hV, ofBits_zero'', cmpi_slt_iff _ _ (by omega) (by decide), cmpf_oeq, ← hn]
  have h1000 : (1000#32 : BitVec 32).toNat = 1000 := rfl
  rw [h1000]
  by_cases hlt : n < 1000
  · have hs := fSm_in a b B q j hj (hr q) hpos hlt
    have key : ((fSm (F := Ideal) a b (ix2 B j) : EReal) = (best (rowOfI (fIdx (F := Ideal) a b) B.val) (rowOfF (F := Ideal) (fSm (F := Ideal) a b) B.val) n : EReal))
        ↔ Keep (X a b B) q := by
      have hb := fun z => best_le (rowOfI (fIdx (F := Ideal) a b) B.val) (rowOfF (F := Ideal) (fSm (F := Ideal) a b) B.val) n (by omega) z
      constructor
      · intro e
        refine ⟨n, hlt, hpos, fun q' hq' => ?_⟩
        have hj' : q'.val < 5120 := by have := q'.isLt; omega
        have hp' := fIdx_in a b B q' ⟨q'.val, hj'⟩ rfl
        have h := (hb _).mp (le_of_eq e.symm) q'.val hj' (by rw [hI _ hj']; exact hp'.eq hq')
        rw [hS _ hj', fSm_in a b B q' ⟨q'.val, hj'⟩ rfl (hr q') hq' hlt, hs] at h
        exact h
      · rintro ⟨m, hm, hpm, hbest⟩
        have e : n = m := hpos.eq hpm
        refine le_antisymm ?_ ?_
        · have h := (hb _).mp le_rfl j.val j.isLt (by rw [hIj])
          rwa [hSj] at h
        · refine (hb _).mpr fun i hi hin => ?_
          rw [hI i hi] at hin
          rw [hS i hi]
          by_cases h5 : i < 5000
          · have hp' := fIdx_in a b B ⟨i, h5⟩ ⟨i, hi⟩ rfl
            rw [hin] at hp'
            rw [fSm_in a b B ⟨i, h5⟩ ⟨i, hi⟩ rfl (hr _) hp' hlt, hs]
            exact hbest ⟨i, h5⟩ (e ▸ hp')
          · rw [fIdx_out a b B ⟨i, hi⟩ (Nat.le_of_not_lt h5)] at hin
            exact absurd (h1000.symm.trans hin) hlt.ne'
    rw [fInv_in a b B q j hj (hr q) hpos hlt, decide_eq_true hlt]
    by_cases hk : Keep (X a b B) q
    · rw [if_pos hk, decide_eq_true (key.mpr hk)]
      rfl
    · rw [if_neg hk, decide_eq_false fun h => hk (key.mp h)]
      rfl
  · rw [decide_eq_false hlt, if_neg]
    · unfold Scalar.select IntOp.andi
      simp
    · rintro ⟨m, hm, hpm, -⟩
      exact hlt (hpos.eq hpm ▸ hm)

theorem cut_at (x : S8x5120.Idx → Ideal .f32) (j : Fin 5120) (hj : j.val = q.val) : cutO (F := Ideal) x (ix3 (tOf B q) (0 : Fin 1) (lOf q)) = x (ix2 B j) := by
  unfold cutO
  refine (shapeCast_apply _ _ _ (ix2 B q : S8x5000.Idx) ?_).trans (extractStridedSlice_apply _ _ _ _ (ix2 B j : S8x5120.Idx) fun c => ?_)
  · rw [Shape.rowMajor_val_three, Shape.rowMajor_val_two]
    show B.val * 5000 + q.val = ((B.val * 5 + q.val / 1000) * 1 + 0) * 1000 + q.val % 1000
    omega
  · match c with
    | ⟨0, _⟩ => exact (Nat.zero_add _).symm
    | ⟨1, _⟩ => exact hj.trans (Nat.zero_add _).symm

open Classical in
theorem fOut_at (hr : ∀ q, Row (X a b B q)) (k : Fin 1000) : (fOut (F := Ideal) a b (ix3 B q k) : EReal) = if Keep (X a b B) q
      then Ideal.div (Ideal.exp (X a b B q k.castSucc - vmx (X a b B q))) (0 + vsum (X a b B q)) else 0 := by
  have hj : q.val < 5120 := by have := q.isLt; omega
  have e : (fOut (F := Ideal) a b (ix3 B q k) : EReal) = (k2_pay1 (F := Ideal) (rowsAt a (tOf B q)) (maskAt (maskOf (F := Ideal) b) (tOf B q))
      (lanesAt (gMax a (maskOf (F := Ideal) b)) (tOf B q)) (lanesAt (cutO (F := Ideal) (dedups (F := Ideal) (fIdx (F := Ideal) a b) (fSm (F := Ideal) a b) (fInv (F := Ideal) a b))) (tOf B q))
      (ix3 (0 : Fin 1) (lOf q) k) : EReal) := rfl
  have e1 : (lanesAt (gMax a (maskOf (F := Ideal) b)) (tOf B q) (ix3 (0 : Fin 1) (0 : Fin 1) (lOf q)) : EReal) = vmx (X a b B q) := gMax_at a b B q
  have e2 : (lanesAt (cutO (F := Ideal) (dedups (F := Ideal) (fIdx (F := Ideal) a b) (fSm (F := Ideal) a b) (fInv (F := Ideal) a b))) (tOf B q) (ix3 (0 : Fin 1) (0 : Fin 1) (lOf q)) : EReal)
      = if Keep (X a b B) q then Ideal.div 1 (vsum (X a b B q)) else 0 :=
    (cut_at B q _ ⟨q.val, hj⟩ rfl).trans (dedup_at a b B q hr ⟨q.val, hj⟩ rfl)
  rw [e, out_at, row_at, e1, e2]
  by_cases h : Keep (X a b B) q
  · rw [if_pos h, if_pos h, zero_add]
    obtain ⟨n, hn, hp, -⟩ := h
    exact Ideal.mul_one_div (vsum_ne (hr q) hp hn)
  · rw [if_neg h, if_neg h, mul_zero]

end Cert.Proof.M
-- ==== Proof.MEq.lean ====
/-
  The reference's result and the kernel's are one array when every logit is a real number.
-/
module

public import proofs.«01_k».proof.Proof.MKerD
public import proofs.«01_k».proof.Proof.Gen.Pre_finite_logits
public import Idealize.ShloMosaic.Lib.ReduceAll

@[expose] public section

noncomputable section

namespace Cert.Proof.M

open Idealize.ShloMosaic
open Cert.KernelIdeal (S8x5000x1001 S8x1000 S8x5000x1000)

variable (a : FVec Ideal S8x5000x1001 .f32) (b : IVec S8x1000 1)

/-- A row of masked logits: the background is unmasked, and a masked entry is the least extended real. -/
theorem row_of_real (ha : ∀ i, ∃ r : ℝ, (a i : EReal) = r) (B : Fin 8) (q : Fin 5000) : Row (X a b B q) where
  bg := by
    obtain ⟨r, hr⟩ := ha (ix3 B q (Fin.last 1000))
    refine ⟨r, ?_⟩
    unfold X
    rw [dif_neg (show ¬ ((Fin.last 1000 : Fin 1001).val < 1000) by decide)]
    exact hr
  lt := fun k => by
    obtain ⟨r, hr⟩ := ha (ix3 B q k)
    have h : (a (ix3 B q k) : EReal) ≠ ⊤ := by rw [hr]; exact EReal.coe_ne_top r
    unfold X
    split
    · split
      · exact h
      · exact bot_ne_top
    · exact h

theorem result_eq (ha : ∀ i, ∃ r : ℝ, (a i : EReal) = r) : R.rOut (F := Ideal) a b = PI.fOut (F := Ideal) a b := by
  have hr := row_of_real a b ha
  funext i
  have hi : i = ix3 (⟨(i 0).val, (i 0).isLt⟩ : Fin 8) (⟨(i 1).val, (i 1).isLt⟩ : Fin 5000) (⟨(i 2).val, (i 2).isLt⟩ : Fin 1000) := by
    funext c
    match c with
    | ⟨0, _⟩ => rfl
    | ⟨1, _⟩ => rfl
    | ⟨2, _⟩ => rfl
  rw [hi]
  exact (rOut_at _ _ a b hr _).trans (fOut_at a b _ _ (hr _) _).symm

theorem ofBits_inf : Ideal.ofBits .f32 0x7F800000#32 = ⊤ := by simp [Ideal.ofBits, Ideal.ieee]

/-- An extended real whose absolute value is below the greatest one is a real number. -/
theorem real_of_abs (x : EReal) (h : max x (-x) < ⊤) : ∃ r : ℝ, x = r := by
  induction x with
  | bot => simp at h
  | top => simp at h
  | coe r => exact ⟨r, rfl⟩

/-- What the precondition says of an entry. -/
theorem real_of_pre (h : Cert.Pre_finite_logits.fn (F := Ideal) a b = fun _ => 1#1) (i : S8x5000x1001.Idx) : ∃ r : ℝ, (a i : EReal) = r := by
  have : Subsingleton Cert.Pre_finite_logits.S_.Idx := ⟨fun x y => funext fun c => c.elim0⟩
  have h' := congrFun h ix0
  unfold Cert.Pre_finite_logits.fn at h'
  have e := Host.reduce_andi_all _ _ _ _ _ h' i
  have e' : BitVec.ofBool (decide (max (a i : EReal) (-(a i : EReal)) < Ideal.ofBits .f32 0x7F800000#32)) = 1#1 := e
  rw [ofBits_inf] at e'
  refine real_of_abs _ ?_
  by_contra hn
  rw [decide_eq_false hn] at e'
  exact absurd e' (by decide)

end Cert.Proof.M
-- ==== Proof.lean ====
/-
  The certificate's claims: the kernel, its idealization and the reference run and end quiescent, their arguments as they
  were; the named constant is the one that the kernel states; the idealized kernel's result is the reference's when every
  logit is finite.
-/
module

public import proofs.«01_k».proof.Defs
public import proofs.«01_k».proof.Proof.PRun
public import proofs.«01_k».proof.Proof.PIRun
public import proofs.«01_k».proof.Proof.RRun
public import proofs.«01_k».proof.Proof.Gen.Pre_finite_logits
public import proofs.«01_k».proof.Proof.MEq

@[expose] public section

noncomputable section

namespace Cert.Proof

open Idealize.ShloMosaic Idealize.SL.Sem

/-- The kernel's run, read at its arguments and at the counters. -/
theorem frame_kernel : Cert.quiescent_Kernel := fun m ρ _ =>
  (θ_run Cert.Kernel.defs _ _).mono (fun _ h => ⟨fun c => (h.1 c).2, h.2⟩) (P.run_main (F := Bits) m ρ)

/-- The idealized kernel's run, read likewise. -/
theorem frame_ideal : Cert.quiescent_KernelIdeal := fun m ρ _ =>
  (θ_run Cert.KernelIdeal.defs _ _).mono (fun _ h => ⟨fun c => (h.1 c).2, h.2⟩) (PI.run_main (F := Ideal) m ρ)

/-- The reference's run, read likewise; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩) (R.run_main (F := Ideal) m ρ)

theorem preserves : Cert.preserves_Kernel_KernelIdeal :=
  IdealRules.named_const.statement Cert.KernelIdeal.κ "neg" .f32 0xF149F2CA#32 ⊥ rfl

/-- The two frames under the precondition, which the runs do not need. -/
theorem frame_ideal_pre : Cert.quiescent_KernelIdeal_pre_finite_logits := fun m ρ _ => frame_ideal m ρ trivial
theorem frame_reference_pre : Cert.quiescent_ReferenceIdeal_pre_finite_logits := fun m ρ _ => frame_reference m ρ trivial

/-- Both runs end at the kernel's closed form of the arguments. -/
theorem algebraic : Cert.algebraic_KernelIdeal_ReferenceIdeal_pre_finite_logits := by
  intro m g m' g' hpre hagree
  refine ⟨fun c => PI.fOut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => h.1 c) (PI.run_main (F := Ideal) m g)
  · refine (θ_run Cert.ReferenceIdeal.defs _ _).mono (fun r h c => ⟨?_, (h c).2⟩) (R.run_main (F := Ideal) m' g')
    have e := (h c).1
    rw [(hagree c).1, (hagree c).2] at e
    exact e.trans (M.result_eq _ _ (M.real_of_pre _ _ (hpre c)))

theorem claim : Cert.Claim := ⟨Cert.Kernel.Gen.facts, Cert.KernelIdeal.Gen.facts, Cert.ReferenceIdeal.Gen.facts,
  Cert.Pre_finite_logits.Gen.facts, frame_kernel, frame_ideal, frame_ideal_pre, frame_reference, frame_reference_pre, preserves, algebraic⟩

end Cert.Proof

end
